-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasReferenceIdeal (m : (ℓ : Loc Cert.BiasReferenceIdeal.nD Cert.BiasReferenceIdeal.τ Cert.BiasReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Bias_BiasIdeal : Prop :=
  True

def algebraic_BiasIdeal_BiasReferenceIdeal [hBiasIdeal : Cert.BiasIdeal.Facts] [hBiasReferenceIdeal : Cert.BiasReferenceIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v35)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v35) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v42) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0))

def Claim : Prop :=
  ∃ (hKernel : Cert.Kernel.Facts) (hKernelIdeal : Cert.KernelIdeal.Facts) (hReferenceIdeal : Cert.ReferenceIdeal.Facts) (hBias : Cert.Bias.Facts) (hBiasIdeal : Cert.BiasIdeal.Facts) (hBiasReferenceIdeal : Cert.BiasReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Bias (hBias := hBias)
    ∧ quiescent_BiasIdeal (hBiasIdeal := hBiasIdeal)
    ∧ quiescent_BiasReferenceIdeal (hBiasReferenceIdeal := hBiasReferenceIdeal)
    ∧ preserves_Kernel_KernelIdeal
    ∧ algebraic_KernelIdeal_ReferenceIdeal (hKernelIdeal := hKernelIdeal) (hReferenceIdeal := hReferenceIdeal)
    ∧ preserves_Bias_BiasIdeal
    ∧ algebraic_BiasIdeal_BiasReferenceIdeal (hBiasIdeal := hBiasIdeal) (hBiasReferenceIdeal := hBiasReferenceIdeal)
-- ==== Kernel.lean ====
abbrev S8x8192x1024 : Shape := ⟨3, ![8, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S_ : Shape := ⟨0, ![]⟩
abbrev S8x5632 : Shape := ⟨2, ![8, 5632]⟩
abbrev S8x22x256 : Shape := ⟨3, ![8, 22, 256]⟩
abbrev S22x8x256 : Shape := ⟨3, ![22, 8, 256]⟩
abbrev S1x5632 : Shape := ⟨2, ![1, 5632]⟩
abbrev S1x22x256 : Shape := ⟨3, ![1, 22, 256]⟩
abbrev S22x1x256 : Shape := ⟨3, ![22, 1, 256]⟩
abbrev S1x512x1024 : Shape := ⟨3, ![1, 512, 1024]⟩
abbrev S512x1024 : Shape := ⟨2, ![512, 1024]⟩
abbrev S4x520x128 : Shape := ⟨3, ![4, 520, 128]⟩
abbrev S11x4x8x128 : Shape := ⟨4, ![11, 4, 8, 128]⟩
abbrev S512x2816 : Shape := ⟨2, ![512, 2816]⟩
abbrev S8x512x128 : Shape := ⟨3, ![8, 512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x1x8x128 : Shape := ⟨4, ![1, 1, 8, 128]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S1x1x256 : Shape := ⟨3, ![1, 1, 256]⟩
abbrev S1x256 : Shape := ⟨2, ![1, 256]⟩
abbrev S1x128 : Shape := ⟨2, ![1, 128]⟩
abbrev S1x1x128 : Shape := ⟨3, ![1, 1, 128]⟩
abbrev S128x128 : Shape := ⟨2, ![128, 128]⟩

abbrev nBuf : Space → Nat
  | .hbm => 18
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1x1024, .f32⟩
  | .hbm, ⟨7, _⟩ => ⟨S1024x5632, .bf16⟩
  | .hbm, ⟨8, _⟩ => ⟨S_, .i32⟩
  | .hbm, ⟨9, _⟩ => ⟨S_, .f32⟩
  | .hbm, ⟨10, _⟩ => ⟨S8x5632, .f32⟩
  | .hbm, ⟨11, _⟩ => ⟨S8x22x256, .f32⟩
  | .hbm, ⟨12, _⟩ => ⟨S22x8x256, .f32⟩
  | .hbm, ⟨13, _⟩ => ⟨S1x5632, .f32⟩
  | .hbm, ⟨14, _⟩ => ⟨S1x22x256, .f32⟩
  | .hbm, ⟨15, _⟩ => ⟨S22x1x256, .f32⟩
  | .hbm, ⟨16, _⟩ => ⟨S2816x1024, .bf16⟩
  | .hbm, ⟨17, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S22x8x256, .f32⟩
  | .local _ .vmem, ⟨5, _⟩ => ⟨S22x1x256, .f32⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | .local _ .vmem, ⟨9, _⟩ => ⟨S512x1024, .bf16⟩
  | .local _ .vmem, ⟨10, _⟩ => ⟨S4x520x128, .f32⟩
  | .local _ .vmem, ⟨11, _⟩ => ⟨S4x520x128, .f32⟩
  | .local _ .vmem, ⟨12, _⟩ => ⟨S11x4x8x128, .f32⟩
  | .local _ .vmem, ⟨13, _⟩ => ⟨S512x2816, .bf16⟩
  | .local _ .vmem, ⟨14, _⟩ => ⟨S8x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S22x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S22x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x8192x1024 : Shape := ⟨3, ![8, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8194x5632 : Shape := ⟨3, ![8, 8194, 5632]⟩
abbrev S1x5632 : Shape := ⟨2, ![1, 5632]⟩
abbrev S1x1x5632 : Shape := ⟨3, ![1, 1, 5632]⟩
abbrev S8x8192x2816 : Shape := ⟨3, ![8, 8192, 2816]⟩

abbrev nBuf : Space → Nat
  | .hbm => 63
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x8192x5632, .f32⟩
  | .hbm, ⟨23, _⟩ => ⟨S_, .i32⟩
  | .hbm, ⟨24, _⟩ => ⟨S_, .f32⟩
  | .hbm, ⟨25, _⟩ => ⟨S8x8194x5632, .f32⟩
  | .hbm, ⟨26, _⟩ => ⟨S8x8192x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S8x8192x5632, .f32⟩
  | .hbm, ⟨31, _⟩ => ⟨S8x8192x5632, .f32⟩
  | .hbm, ⟨32, _⟩ => ⟨S8x8192x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S8x8192x5632, .f32⟩
  | .hbm, ⟨37, _⟩ => ⟨S8x8192x5632, .f32⟩
  | .hbm, ⟨38, _⟩ => ⟨S8x8192x5632, .f32⟩
  | .hbm, ⟨39, _⟩ => ⟨S8x8192x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S8x8192x5632, .f32⟩
  | .hbm, ⟨44, _⟩ => ⟨S8x8192x5632, .f32⟩
  | .hbm, ⟨45, _⟩ => ⟨S8x8192x5632, .f32⟩
  | .hbm, ⟨46, _⟩ => ⟨S1x1x5632, .f32⟩
  | .hbm, ⟨47, _⟩ => ⟨S8x8192x5632, .f32⟩
  | .hbm, ⟨48, _⟩ => ⟨S8x8192x5632, .f32⟩
  | .hbm, ⟨49, _⟩ => ⟨S8x8192x2816, .f32⟩
  | .hbm, ⟨50, _⟩ => ⟨S8x8192x2816, .f32⟩
  | .hbm, ⟨51, _⟩ => ⟨S8x8192x2816, .f32⟩
  | .hbm, ⟨52, _⟩ => ⟨S8x8192x2816, .f32⟩
  | .hbm, ⟨53, _⟩ => ⟨S_, .f32⟩
  | .hbm, ⟨54, _⟩ => ⟨S8x8192x2816, .f32⟩
  | .hbm, ⟨55, _⟩ => ⟨S8x8192x2816, .f32⟩
  | .hbm, ⟨56, _⟩ => ⟨S_, .f32⟩
  | .hbm, ⟨57, _⟩ => ⟨S8x8192x2816, .f32⟩
  | .hbm, ⟨58, _⟩ => ⟨S8x8192x2816, .f32⟩
  | .hbm, ⟨59, _⟩ => ⟨S8x8192x2816, .f32⟩
  | .hbm, ⟨60, _⟩ => ⟨S8x8192x2816, .f32⟩
  | .hbm, ⟨61, _⟩ => ⟨S8x8192x1024, .f32⟩
  | .hbm, ⟨62, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Bias.lean ====
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x128x256 : Shape := ⟨3, ![8, 128, 256]⟩
abbrev S1x128x256 : Shape := ⟨3, ![1, 128, 256]⟩
abbrev S1x1 : Shape := ⟨2, ![1, 1]⟩

abbrev nBuf : Space → Nat
  | .hbm => 51
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i32⟩
  | .hbm, ⟨46, _⟩ => ⟨S_, .i32⟩
  | .hbm, ⟨47, _⟩ => ⟨S_, .i32⟩
  | .hbm, ⟨48, _⟩ => ⟨S128x256, .i32⟩
  | .hbm, ⟨49, _⟩ => ⟨S128x256, .i32⟩
  | .hbm, ⟨50, _⟩ => ⟨S8x128x256, .f32⟩
  | .local _ .vmem, ⟨0, _⟩ => ⟨S128x256, .i32⟩
  | .local _ .vmem, ⟨1, _⟩ => ⟨S1x128x256, .f32⟩
  | .local _ .vmem, ⟨2, _⟩ => ⟨S1x128x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_9 : Ref sig .tc := ⟨.hbm, 46, rfl⟩
abbrev main_call1_v0 : Ref sig .tc := ⟨.hbm, 47, rfl⟩
abbrev main_call1_v1 : Ref sig .tc := ⟨.hbm, 48, rfl⟩
abbrev main_v34 : Ref sig .tc := ⟨.hbm, 49, rfl⟩
abbrev main_v35 : Ref sig .tc := ⟨.hbm, 50, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_1 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasReferenceIdeal.lean ====
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩

abbrev nBuf : Space → Nat
  | .hbm => 61
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S_, .i32⟩
  | .hbm, ⟨50, _⟩ => ⟨S128x256, .i32⟩
  | .hbm, ⟨51, _⟩ => ⟨S128x256, .i32⟩
  | .hbm, ⟨52, _⟩ => ⟨S128x256, .i32⟩
  | .hbm, ⟨53, _⟩ => ⟨S128x256x1, .i32⟩
  | .hbm, ⟨54, _⟩ => ⟨S128x256x8, .f32⟩
  | .hbm, ⟨55, _⟩ => ⟨S8x128x256, .f32⟩
  | .hbm, ⟨56, _⟩ => ⟨S_, .f32⟩
  | .hbm, ⟨57, _⟩ => ⟨S_, .f32⟩
  | .hbm, ⟨58, _⟩ => ⟨S8x128x256, .i1⟩
  | .hbm, ⟨59, _⟩ => ⟨S8x128x256, .f32⟩
  | .hbm, ⟨60, _⟩ => ⟨S8x128x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_9 : Ref sig .tc := ⟨.hbm, 46, rfl⟩
abbrev main_v34 : Ref sig .tc := ⟨.hbm, 47, rfl⟩
abbrev main_v35 : Ref sig .tc := ⟨.hbm, 48, rfl⟩
abbrev main_c_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.Spec.lean ====
/- What the feed-forward half of a layer computes, written once over the extended reals and over plain
   coordinates: the normalised rows, their products with the up projection, the causal convolution of width
   three along the sequence, the gate, and the down projection added to the input. -/
module

public import Idealize.ShloMosaic.PureOps.Ideal.Laws
public import Idealize.ShloMosaic.Lib.ValueIdx

@[expose] public section

noncomputable section

namespace Cert.Ffn

open Idealize.ShloMosaic

/-- An array's entry at a coordinate, zero outside the array. -/
def at1 {n : ℕ} (x : (⟨1, ![n]⟩ : Shape).Idx → EReal) (a : ℕ) : EReal :=
  if h : a < n then x (ValueIdx.ix1 ⟨a, h⟩) else 0

/-- A matrix's entry at two coordinates, zero outside the matrix. -/
def at2 {n k : ℕ} (x : (⟨2, ![n, k]⟩ : Shape).Idx → EReal) (a b : ℕ) : EReal :=
  if h : a < n ∧ b < k then x (ValueIdx.ix2 ⟨a, h.1⟩ ⟨b, h.2⟩) else 0

/-- A rank-three array's entry at three coordinates, zero outside the array. -/
def at3 {n k l : ℕ} (x : (⟨3, ![n, k, l]⟩ : Shape).Idx → EReal) (a b c : ℕ) : EReal :=
  if h : a < n ∧ b < k ∧ c < l then x (ValueIdx.ix3 ⟨a, h.1⟩ ⟨b, h.2.1⟩ ⟨c, h.2.2⟩) else 0

theorem at1_of {n : ℕ} (x : (⟨1, ![n]⟩ : Shape).Idx → EReal) (i : (⟨1, ![n]⟩ : Shape).Idx) :
    x i = at1 x (i 0).val := by
  have h : (i 0).val < n := (i 0).isLt
  unfold at1; rw [dif_pos h]; exact congrArg x (ValueIdx.eq_ix1 i)

theorem at2_of {n k : ℕ} (x : (⟨2, ![n, k]⟩ : Shape).Idx → EReal) (i : (⟨2, ![n, k]⟩ : Shape).Idx) :
    x i = at2 x (i 0).val (i 1).val := by
  have h : (i 0).val < n ∧ (i 1).val < k := ⟨(i 0).isLt, (i 1).isLt⟩
  unfold at2; rw [dif_pos h]; exact congrArg x (ValueIdx.eq_ix2 i)

theorem at3_of {n k l : ℕ} (x : (⟨3, ![n, k, l]⟩ : Shape).Idx → EReal) (i : (⟨3, ![n, k, l]⟩ : Shape).Idx) :
    x i = at3 x (i 0).val (i 1).val (i 2).val := by
  have h : (i 0).val < n ∧ (i 1).val < k ∧ (i 2).val < l := ⟨(i 0).isLt, (i 1).isLt, (i 2).isLt⟩
  unfold at3; rw [dif_pos h]; exact congrArg x (ValueIdx.eq_ix3 i)

/-! ## The arrays the feed-forward half takes -/

/-- The six arrays: the input rows, the normalisation's gain, the up projection, the convolution's three
    taps and its bias, the down projection. -/
structure Args where
  x : (⟨3, ![8, 8192, 1024]⟩ : Shape).Idx → EReal
  g : (⟨1, ![1024]⟩ : Shape).Idx → EReal
  wu : (⟨2, ![1024, 5632]⟩ : Shape).Idx → EReal
  cw : (⟨2, ![3, 5632]⟩ : Shape).Idx → EReal
  cb : (⟨1, ![5632]⟩ : Shape).Idx → EReal
  wd : (⟨2, ![2816, 1024]⟩ : Shape).Idx → EReal

namespace Args

variable (A : Args)

/-- The normalised row `s` of sequence `b`, at column `k`. -/
def h (b s k : ℕ) : EReal :=
  at3 A.x b s k
      * Ideal.rsqrt (Ideal.div (∑ j : Fin 1024, at3 A.x b s j * at3 A.x b s j) (Ideal.ofBits .f32 0x44800000#32)
        + Ideal.ofBits .f32 0x358637BD#32)
    * at1 A.g k

/-- The row's product with column `f` of the up projection. -/
def u (b s f : ℕ) : EReal := ∑ k : Fin 1024, A.h b s k * at2 A.wu k f

/-- The same `d` rows earlier, zero before the sequence begins. -/
def back (d b s f : ℕ) : EReal := if d ≤ s then A.u b (s - d) f else 0

/-- The causal convolution of width three. -/
def y (b s f : ℕ) : EReal :=
  at1 A.cb f + at2 A.cw 0 f * A.back 2 b s f + at2 A.cw 1 f * A.back 1 b s f + at2 A.cw 2 f * A.u b s f

/-- The gated activation. -/
def act (b s f : ℕ) : EReal := A.y b s f * Ideal.logistic (A.y b s f) * A.y b s (f + 2816)

/-- The result. -/
def out (b s c : ℕ) : EReal := at3 A.x b s c + ∑ f : Fin 2816, A.act b s f * at2 A.wd f c

end Args

end Cert.Ffn

end
-- ==== Proof.RefValue.lean ====
/- What the reference computes, read at an index. -/
module

public import proofs.«01_k».proof.Proof.Spec
public import proofs.«01_k».proof.Proof.Gen.ReferenceIdeal.Read

@[expose] public section

set_option maxRecDepth 16384

noncomputable section

namespace Cert.Ffn

open Idealize.ShloMosaic Cert.ReferenceIdeal Cert.ReferenceIdeal.Read

variable (A : Args)

/-- The normalised rows. -/
theorem ref_h (i : S8x8192x1024.Idx) :
    val_main_v12 (F := Ideal) A.x A.g i = A.h (i 0).val (i 1).val (i 2).val := by
  simp only [val_main_v12_apply, val_main_v9_apply, val_main_v8_apply, val_main_v7_apply, val_main_v6_apply, val_main_v5_apply,
    val_main_v4_apply, val_main_v3_apply, val_main_v2_apply, val_main_v1_apply, val_main_v0_apply, val_main_cst_apply, val_main_cst_0_apply,
    val_main_cst_1_apply, val_main_v11_apply, val_main_v10_apply, Ideal.mulf_def, Ideal.addf_def, Ideal.hostDivf_def,
    Ideal.hostUnary_rsqrt_def, Ideal.ofBits_def, Ideal.ofBits_zero_f32, zero_add, at3_of A.x, at1_of A.g]
  rfl

/-- The up projection. -/
theorem ref_u (i : S8x8192x5632.Idx) :
    val_main_v13 (F := Ideal) A.x A.g A.wu i = A.u (i 0).val (i 1).val (i 2).val := by
  rw [val_main_v13_apply]
  simp only [ref_h, at2_of A.wu]
  rfl

/-- The rows shifted by the two zero rows put before them. -/
theorem ref_pad (i : S8x8194x5632.Idx) :
    val_main_v14 (F := Ideal) A.x A.g A.wu i = if 2 ≤ (i 1).val then A.u (i 0).val ((i 1).val - 2) (i 2).val else 0 := by
  have h0 : (i 0).val < 8 := (i 0).isLt
  have h1 : (i 1).val < 8194 := (i 1).isLt
  have h2 : (i 2).val < 5632 := (i 2).isLt
  unfold val_main_v14 pad
  split_ifs with h hb hb
  · rw [ref_u]
    refine congr (congr (congrArg A.u ?_) ?_) ?_
    · show ((i 0).val - 0) / (0 + 1) = _; omega
    · show ((i 1).val - 2) / (0 + 1) = _; omega
    · show ((i 2).val - 0) / (0 + 1) = _; omega
  · exact absurd (h 1).1 hb
  · refine absurd (fun a => ?_) h
    match a with
    | ⟨0, _⟩ => exact ⟨Nat.zero_le _, Nat.mod_one _, (by show ((i 0).val - 0) / (0 + 1) < 8; omega)⟩
    | ⟨1, _⟩ => exact ⟨hb, Nat.mod_one _, (by show ((i 1).val - 2) / (0 + 1) < 8192; omega)⟩
    | ⟨2, _⟩ => exact ⟨Nat.zero_le _, Nat.mod_one _, (by show ((i 2).val - 0) / (0 + 1) < 5632; omega)⟩
  · show FloatOps.sitofp (F := Ideal) .f32 (0#32) = 0
    show (((0#32 : BitVec 32).toInt : ℝ) : EReal) = 0
    simp

/-- The convolution. -/
theorem ref_y (i : S8x8192x5632.Idx) :
    val_main_v37 (F := Ideal) A.x A.g A.wu A.cw A.cb i = A.y (i 0).val (i 1).val (i 2).val := by
  simp only [val_main_v37_apply, val_main_v36_apply, val_main_v35_apply, val_main_v34_apply, val_main_v33_apply, val_main_v32_apply,
    val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, ref_pad,
    Ideal.mulf_def, Ideal.addf_def, at2_of A.cw, at1_of A.cb]
  have hf : (i 2).val < 5632 := (i 2).isLt
  have e2 : (if 2 ≤ (i 1).val then A.u (i 0).val ((i 1).val - 2) (i 2).val else 0) = A.back 2 (i 0).val (i 1).val (i 2).val := rfl
  have e1 : (if 2 ≤ 1 + (i 1).val then A.u (i 0).val (1 + (i 1).val - 2) (i 2).val else 0) = A.back 1 (i 0).val (i 1).val (i 2).val := by
    unfold Args.back
    by_cases h : 1 ≤ (i 1).val
    · rw [if_pos h, if_pos (by omega), show 1 + (i 1).val - 2 = (i 1).val - 1 by omega]
    · rw [if_neg h, if_neg (by omega)]
  rw [e1, e2, if_pos (Nat.le_add_right _ _), Nat.add_sub_cancel_left, Nat.mod_eq_of_lt hf]
  unfold Args.y
  simp only [mul_comm (at2 A.cw _ _), add_comm, add_left_comm, add_assoc]

/-- The gated activation. -/
theorem ref_act (i : S8x8192x2816.Idx) :
    val_main_v41 (F := Ideal) A.x A.g A.wu A.cw A.cb i = A.act (i 0).val (i 1).val (i 2).val := by
  simp only [val_main_v41_apply, val_main_v40_apply, val_main_call1_v5_apply, val_main_call1_v4_apply, val_main_call1_v3_apply,
    val_main_call1_v2_apply, val_main_call1_v1_apply, val_main_call1_v0_apply, val_main_call1_cst_apply, val_main_call1_cst_0_apply,
    val_main_v39_apply, val_main_v38_apply, ref_y, Ideal.mulf_def, Ideal.addf_def, Ideal.hostDivf_def]
  have one : FloatOps.ofBits (F := Ideal) FTy.f32 0x3F800000#32 = (1 : EReal) := by
    show Ideal.ofBits .f32 0x3F800000#32 = 1
    simp [Ideal.ofBits, Ideal.ieee]
    rw [← EReal.coe_mul]; norm_num
  rw [one, Nat.add_comm 2816]
  rfl

/-- The result. -/
theorem ref_out (i : S8x8192x1024.Idx) :
    val_main_v43 (F := Ideal) A.x A.g A.wu A.cw A.cb A.wd i = A.out (i 0).val (i 1).val (i 2).val := by
  rw [val_main_v43_apply, val_main_v42_apply]
  simp only [ref_act, at2_of A.wd, at3_of A.x]
  rfl

end Cert.Ffn

end
-- ==== Proof.Model.lean ====
/-
What one grid point of the feed-forward kernel computes, written once as a short program over vectors: the
normalised tile, the eleven up-projected column chunks with the eight rows left by the tile before in front of
them, the gated activation read through rows at stride four, the down projection, and the two stores that undo the
row order. Every load from a scratch buffer is the covered read of the stores made so far, so the definitions here
unfold to exactly the pieces that the frame's run of the kernel found.

An offset that is out of range never occurs; the remainders (`% 5377` and so on) only make the definitions total.
-/
module

public import proofs.«01_k».proof.Proof.Gen.KernelIdeal.Skeleton

@[expose] public section

set_option maxRecDepth 16384

noncomputable section

namespace Cert.Ffn.Model

open Idealize.ShloMosaic Idealize.ShloMosaic.TcCoe
open Cert.KernelIdeal Cert.KernelIdeal.Gen

/-- What a grid point reads: its scratch buffers' views, the loads from the input windows by offset, and the rows
    the tile before left. -/
structure Ins (F : FTy → Type) where
  v9 : View sig .tc .vmem S512x1024 .bf16
  v10 : View sig .tc .vmem S4x520x128 .f32
  v11 : View sig .tc .vmem S4x520x128 .f32
  v13 : View sig .tc .vmem S512x2816 .bf16
  v14 : View sig .tc .vmem S8x512x128 .f32
  /-- the tile of `x`, -/
  x : Vec F S1x512x1024 .f32
  /-- the gain of the normalisation, -/
  g : Vec F S1x1024 .f32
  /-- 256 columns of the up projection, from the given one, -/
  wu : ℕ → Vec F S1024x256 .bf16
  /-- 128 lanes of one tap of one chunk, -/
  cw : ℕ → ℕ → ℕ → Vec F S1x1x128 .f32
  /-- the bias of one chunk, -/
  cb : ℕ → Vec F S1x1x256 .f32
  /-- the down projection, -/
  wd : Vec F S2816x1024 .bf16
  /-- 128 columns of the tile of `x`, -/
  xq : ℕ → Vec F S1x512x128 .f32
  /-- the last eight rows of the tile before, by chunk and slab. -/
  tl : ℕ → ℕ → Vec F S1x1x8x128 .f32

variable {F : FTy → Type} [FloatOps F]

section Inb

theorem inb4 (s r : ℕ) : ∀ a, S1x8x128.size a = 0 ∨
    (![s % 4, r % 492, 0] : Fin 3 → ℕ) a + (![1, 4, 1] : Fin 3 → ℕ) a * (S1x8x128.size a - 1) < S4x520x128.size a :=
  fun a => match a with
  | ⟨0, _⟩ => .inr (show s % 4 + 1 * 0 < 4 by omega)
  | ⟨1, _⟩ => .inr (show r % 492 + 4 * 7 < 520 by omega)
  | ⟨2, _⟩ => .inr (show 0 + 1 * 127 < 128 by omega)

theorem inb8 (s r : ℕ) : ∀ a, S1x8x128.size a = 0 ∨
    (![s % 8, r % 484, 0] : Fin 3 → ℕ) a + (![1, 4, 1] : Fin 3 → ℕ) a * (S1x8x128.size a - 1) < S8x512x128.size a :=
  fun a => match a with
  | ⟨0, _⟩ => .inr (show s % 8 + 1 * 0 < 8 by omega)
  | ⟨1, _⟩ => .inr (show r % 484 + 4 * 7 < 512 by omega)
  | ⟨2, _⟩ => .inr (show 0 + 1 * 127 < 128 by omega)

theorem spos3 : ∀ a, 0 < (![1, 4, 1] : Fin 3 → ℕ) a := by decide

theorem inbTop (s : ℕ) : ∀ a, (![s % 4, 0, 0] : Fin 3 → ℕ) a + S1x8x128.size a ≤ S4x520x128.size a :=
  fun a => match a with
  | ⟨0, _⟩ => show s % 4 + 1 ≤ 4 by omega
  | ⟨1, _⟩ => show 0 + 8 ≤ 520 by omega
  | ⟨2, _⟩ => show 0 + 128 ≤ 128 by omega

theorem inbBody (s : ℕ) : ∀ a, (![s % 4, 8, 0] : Fin 3 → ℕ) a + S1x512x128.size a ≤ S4x520x128.size a :=
  fun a => match a with
  | ⟨0, _⟩ => show s % 4 + 1 ≤ 4 by omega
  | ⟨1, _⟩ => show 8 + 512 ≤ 520 by omega
  | ⟨2, _⟩ => show 0 + 128 ≤ 128 by omega

theorem inbAct (r k : ℕ) : ∀ a, (![r % 385, k % 2689] : Fin 2 → ℕ) a + S128x128.size a ≤ S512x2816.size a :=
  fun a => match a with
  | ⟨0, _⟩ => show r % 385 + 128 ≤ 512 by omega
  | ⟨1, _⟩ => show k % 2689 + 128 ≤ 2816 by omega

theorem inbTail (c s : ℕ) : ∀ a, (![c % 11, s % 4, 0, 0] : Fin 4 → ℕ) a + S1x1x8x128.size a ≤ S11x4x8x128.size a :=
  fun a => match a with
  | ⟨0, _⟩ => show c % 11 + 1 ≤ 11 by omega
  | ⟨1, _⟩ => show s % 4 + 1 ≤ 4 by omega
  | ⟨2, _⟩ => show 0 + 8 ≤ 8 by omega
  | ⟨3, _⟩ => show 0 + 128 ≤ 128 by omega

theorem inbSlab (q : ℕ) : ∀ a, (![q % 8, 0, 0] : Fin 3 → ℕ) a + S1x512x128.size a ≤ S8x512x128.size a :=
  fun a => match a with
  | ⟨0, _⟩ => show q % 8 + 1 ≤ 8 by omega
  | ⟨1, _⟩ => show 0 + 512 ≤ 512 by omega
  | ⟨2, _⟩ => show 0 + 128 ≤ 128 by omega

theorem inbOut (k : ℕ) : ∀ a, (![0, 0, k % 897] : Fin 3 → ℕ) a + S1x512x128.size a ≤ S1x512x1024.size a :=
  fun a => match a with
  | ⟨0, _⟩ => show 0 + 1 ≤ 1 by omega
  | ⟨1, _⟩ => show 0 + 512 ≤ 512 by omega
  | ⟨2, _⟩ => show k % 897 + 128 ≤ 1024 by omega

theorem slRes (q : ℕ) : S512x256.Slices ![0, q % 2 * 128] S512x128 :=
  ⟨rfl, fun a => match a with
  | ⟨0, _⟩ => show 0 + 512 ≤ 512 by omega
  | ⟨1, _⟩ => show q % 2 * 128 + 128 ≤ 256 by omega⟩

theorem slTail (q : ℕ) : S512x256.Slices ![504, q % 2 * 128] S8x128 :=
  ⟨rfl, fun a => match a with
  | ⟨0, _⟩ => show 504 + 8 ≤ 512 by omega
  | ⟨1, _⟩ => show q % 2 * 128 + 128 ≤ 256 by omega⟩

theorem slBias (q : ℕ) : S1x256.Slices ![0, q % 2 * 128] S1x128 :=
  ⟨rfl, fun a => match a with
  | ⟨0, _⟩ => show 0 + 1 ≤ 1 by omega
  | ⟨1, _⟩ => show q % 2 * 128 + 128 ≤ 256 by omega⟩

theorem slOut (p k : ℕ) : S512x1024.Slices ![p % 505, k % 897] S8x128 :=
  ⟨rfl, fun a => match a with
  | ⟨0, _⟩ => show p % 505 + 8 ≤ 512 by omega
  | ⟨1, _⟩ => show k % 897 + 128 ≤ 1024 by omega⟩

end Inb

variable (I : Ins F)

/-- The normalised tile, as loaded back from its scratch. -/
def h : Vec F S512x1024 .bf16 :=
  I.v9.readCov [⟨Rect.unit ![0, 0] S512x1024.size inb_S512x1024_S512x1024_0_0, k0_pay3 I.x I.g⟩]
    (Rect.unit ![0, 0] S512x1024.size inb_S512x1024_S512x1024_0_0).toLoadRect

/-- The up projection of half `d` of chunk `c`. -/
def res (c d : ℕ) : FVec F S512x256 .f32 :=
  matmul dot_S512x1024_S1024x256_S512x256_1_0_0_1_n_n none (h I)
    (shapeCast S1024x256 (I.wu (d * 2816 + c * 256)) shapeCasts_S1024x256_S1024x256)
    (constant S512x256 .f32 0x00000000#32)

/-- The store of slab `s` of chunk `c` under the eight tail rows, -/
def bodyPiece (c s : ℕ) : View.Piece (Elt F) S4x520x128 .f32 :=
  ⟨Rect.unit ![s % 4, 8, 0] S1x512x128.size (inbBody s),
    shapeCast S1x512x128 (extractStridedSlice S512x128 ![0, s % 2 * 128] (res I c (s / 2)) (slRes s))
      shapeCasts_S512x128_S1x512x128⟩

/-- the store of the tail rows, -/
def topPiece (c s : ℕ) : View.Piece (Elt F) S4x520x128 .f32 :=
  ⟨Rect.unit ![s % 4, 0, 0] S1x8x128.size (inbTop s),
    shapeCast S1x8x128 (shapeCast S8x128 (I.tl c s) shapeCasts_S1x1x8x128_S8x128) shapeCasts_S8x128_S1x8x128⟩

/-- and the store of the new tail rows. -/
def tailPiece (c s : ℕ) : View.Piece (Elt F) S11x4x8x128 .f32 :=
  ⟨Rect.unit ![c % 11, s % 4, 0, 0] S1x1x8x128.size (inbTail c s),
    shapeCast S1x1x8x128 (extractStridedSlice S8x128 ![504, s % 2 * 128] (res I c (s / 2)) (slTail s))
      shapeCasts_S8x128_S1x1x8x128⟩

/-- The eight stores of chunk `c`, last first, over the stores before. -/
def uPut (c : ℕ) (L : List (View.Piece (Elt F) S4x520x128 .f32)) : List (View.Piece (Elt F) S4x520x128 .f32) :=
  bodyPiece I c 3 :: topPiece I c 3 :: bodyPiece I c 2 :: topPiece I c 2 ::
    bodyPiece I c 1 :: topPiece I c 1 :: bodyPiece I c 0 :: topPiece I c 0 :: L

/-- What chunk `c`'s buffer has been given once chunk `c` is up (even and odd chunks use two buffers). -/
def uList : ℕ → List (View.Piece (Elt F) S4x520x128 .f32)
  | 0 => uPut I 0 []
  | 1 => uPut I 1 []
  | c + 2 => uPut I (c + 2) (uList c)

/-- The buffer chunk `c` uses. -/
def uView (c : ℕ) : View sig .tc .vmem S4x520x128 .f32 :=
  match c % 2 with
  | 0 => I.v10
  | _ => I.v11

/-- The new tail rows after `n` stores of them, over `L`. -/
def tailList (L : List (View.Piece (Elt F) S11x4x8x128 .f32)) : ℕ → List (View.Piece (Elt F) S11x4x8x128 .f32)
  | 0 => L
  | n + 1 => tailPiece I (n / 4) (n % 4) :: tailList L n

/-- Eight rows of slab `s` of chunk `c`, from row `r`, at stride four. -/
def rows8 (c s r : ℕ) : FVec F S8x128 .f32 :=
  shapeCast S8x128
    ((uView I c).readCov (uList I c)
      { off := ![s % 4, r % 492, 0], size := S1x8x128.size, stride := ![1, 4, 1], inb := inb4 s r })
    shapeCasts_S1x8x128_S8x128

/-- 128 rows in the interleaved order: four groups of 32, each read as four residues. -/
def rows (c s r : ℕ) : FVec F S128x128 .f32 :=
  concatenate S128x128 0
    [⟨S8x128, rows8 I c s r⟩, ⟨S8x128, rows8 I c s (r + 1)⟩, ⟨S8x128, rows8 I c s (r + 2)⟩, ⟨S8x128, rows8 I c s (r + 3)⟩,
     ⟨S8x128, rows8 I c s (r + 32)⟩, ⟨S8x128, rows8 I c s (r + 33)⟩, ⟨S8x128, rows8 I c s (r + 34)⟩,
     ⟨S8x128, rows8 I c s (r + 35)⟩, ⟨S8x128, rows8 I c s (r + 64)⟩, ⟨S8x128, rows8 I c s (r + 65)⟩,
     ⟨S8x128, rows8 I c s (r + 66)⟩, ⟨S8x128, rows8 I c s (r + 67)⟩, ⟨S8x128, rows8 I c s (r + 96)⟩,
     ⟨S8x128, rows8 I c s (r + 97)⟩, ⟨S8x128, rows8 I c s (r + 98)⟩, ⟨S8x128, rows8 I c s (r + 99)⟩]
    concatenates_S8x128_S8x128_S8x128_S8x128_S8x128_S8x128_S8x128_S8x128_S8x128_S8x128_S8x128_S8x128_S8x128_S8x128_S8x128_S8x128_S128x128_d0

/-- One tap: the weights of tap `t`, half `d`, slab `q` of chunk `c`, times the 128 rows from `r`. -/
def tap (c d q t r : ℕ) : FVec F S128x128 .f32 :=
  mulf (broadcastTo S128x128 (shapeCast S1x128 (I.cw (c + d * 11) t q) shapeCasts_S1x1x128_S1x128)
      broadcasts_S1x128_S128x128)
    (rows I c (d * 2 + q) r)

/-- The convolution of half `d`, slab `q` of chunk `c`, on 128 rows of block `r`. -/
def y (c d q r : ℕ) : FVec F S128x128 .f32 :=
  addf (addf (addf
      (broadcastTo S128x128
        (extractStridedSlice S1x128 ![0, q % 2 * 128] (shapeCast S1x256 (I.cb (c + d * 11)) shapeCasts_S1x1x256_S1x256)
          (slBias q)) broadcasts_S1x128_S128x128)
      (tap I c d q 0 (r * 128 + 6)))
    (tap I c d q 1 (r * 128 + 7)))
    (tap I c d q 2 (r * 128 + 8))

/-- The gated activation stored for block `r`, slab `q` of chunk `c`. -/
def actPiece (c q r : ℕ) : View.Piece (Elt F) S512x2816 .bf16 :=
  ⟨Rect.unit ![r * 128 % 385, (c * 256 + q * 128) % 2689] S128x128.size (inbAct (r * 128) (c * 256 + q * 128)),
    shapeCast S128x128
      (truncf .bf16 (mulf (mulf (y I c 0 q r) (logistic (y I c 0 q r))) (y I c 1 q r)) bitsLt_bf16_f32)
      shapeCasts_S128x128_S128x128⟩

/-- The activations after `n` stores of them: chunk by chunk, slab by slab, block by block. -/
def actList : ℕ → List (View.Piece (Elt F) S512x2816 .bf16)
  | 0 => []
  | n + 1 => actPiece I (n / 8) (n / 4 % 2) (n % 4) :: actList n

/-- The down projection of the tile. -/
def total : FVec F S512x1024 .f32 :=
  matmul dot_S512x2816_S2816x1024_S512x1024_1_0_0_1_n_n none
    (I.v13.readCov (actList I 88) (Rect.unit ![0, 0] S512x2816.size inb_S512x2816_S512x2816_0_0).toLoadRect)
    (shapeCast S2816x1024 I.wd shapeCasts_S2816x1024_S2816x1024)
    (constant S512x1024 .f32 0x00000000#32)

/-- The store of eight rows of the product at stride four. -/
def backPiece (n : ℕ) : View.Piece (Elt F) S8x512x128 .f32 :=
  ⟨{ off := ![n / 64 % 8, (n % 64 / 4 * 32 + n % 4) % 484, 0], size := S1x8x128.size, stride := ![1, 4, 1],
     inb := inb8 (n / 64) (n % 64 / 4 * 32 + n % 4), stride_pos := spos3 },
    shapeCast S1x8x128
      (extractStridedSlice S8x128 ![(n % 64 / 4 * 32 + n % 4 * 8) % 505, (n / 64 * 128) % 897] (total I)
        (slOut (n % 64 / 4 * 32 + n % 4 * 8) (n / 64 * 128)))
      shapeCasts_S8x128_S1x8x128⟩

def backList : ℕ → List (View.Piece (Elt F) S8x512x128 .f32)
  | 0 => []
  | n + 1 => backPiece I n :: backList n

/-- The output's store of 128 columns. -/
def outPiece (q : ℕ) : View.Piece (Elt F) S1x512x1024 .f32 :=
  ⟨Rect.unit ![0, 0, q * 128 % 897] S1x512x128.size (inbOut (q * 128)),
    shapeCast S1x512x128
      (addf (shapeCast S512x128 (I.xq q) shapeCasts_S1x512x128_S512x128)
        (shapeCast S512x128
          (I.v14.readCov (backList I 512) (Rect.unit (s := S8x512x128) ![q % 8, 0, 0] S1x512x128.size (inbSlab q)).toLoadRect)
          shapeCasts_S1x512x128_S512x128))
      shapeCasts_S512x128_S1x512x128⟩

/-- What the point stores into its output window, last first. -/
def outList : ℕ → List (View.Piece (Elt F) S1x512x1024 .f32)
  | 0 => []
  | n + 1 => outPiece I n :: outList n

end Cert.Ffn.Model

end
-- ==== Proof.Pieces.lean ====
/-
The frame's run of the kernel found, for each grid point, the list of stores made into the output window and into the
carried tail rows. Both lists are those of `Model.lean`, at the loads the point makes from its windows.
-/
module

public import proofs.«01_k».proof.Proof.Model
public import proofs.«01_k».proof.Proof.Gen.KernelIdeal.Frame

@[expose] public section

set_option maxRecDepth 16384

noncomputable section

namespace Cert.Ffn.Model

open Idealize.ShloMosaic Idealize.ShloMosaic.TcCoe Idealize.ShloMosaic.Tactic
open Cert.KernelIdeal Cert.KernelIdeal.Gen

variable {F : FTy → Type} [FloatOps F]

theorem inbW (k : ℕ) : ∀ a, (![0, k % 5377] : Fin 2 → ℕ) a + S1024x256.size a ≤ S1024x5632.size a :=
  fun a => match a with
  | ⟨0, _⟩ => show 0 + 1024 ≤ 1024 by omega
  | ⟨1, _⟩ => show k % 5377 + 256 ≤ 5632 by omega

theorem inbCw (i t q : ℕ) : ∀ a, (![i % 22, t % 8, q % 2 * 128] : Fin 3 → ℕ) a + S1x1x128.size a ≤ S22x8x256.size a :=
  fun a => match a with
  | ⟨0, _⟩ => show i % 22 + 1 ≤ 22 by omega
  | ⟨1, _⟩ => show t % 8 + 1 ≤ 8 by omega
  | ⟨2, _⟩ => show q % 2 * 128 + 128 ≤ 256 by omega

theorem inbCb (i : ℕ) : ∀ a, (![i % 22, 0, 0] : Fin 3 → ℕ) a + S1x1x256.size a ≤ S22x1x256.size a :=
  fun a => match a with
  | ⟨0, _⟩ => show i % 22 + 1 ≤ 22 by omega
  | ⟨1, _⟩ => show 0 + 1 ≤ 1 by omega
  | ⟨2, _⟩ => show 0 + 256 ≤ 256 by omega

/-- The loads of a grid point, given the tail rows it finds. -/
def ins (arg2 : Memref sig .tc .vmem S1x512x1024 .f32) (harg2 : arg2.IsWhole) (arg3 : Memref sig .tc .vmem S1x1024 .f32)
    (harg3 : arg3.IsWhole) (arg4 : Memref sig .tc .vmem S1024x5632 .bf16) (harg4 : arg4.IsWhole)
    (arg5 : Memref sig .tc .vmem S22x8x256 .f32) (harg5 : arg5.IsWhole) (arg6 : Memref sig .tc .vmem S22x1x256 .f32)
    (harg6 : arg6.IsWhole) (arg7 : Memref sig .tc .vmem S2816x1024 .bf16) (harg7 : arg7.IsWhole)
    (arg9 : Memref sig .tc .vmem S512x1024 .bf16) (arg10 : Memref sig .tc .vmem S4x520x128 .f32)
    (arg11 : Memref sig .tc .vmem S4x520x128 .f32) (arg13 : Memref sig .tc .vmem S512x2816 .bf16)
    (arg14 : Memref sig .tc .vmem S8x512x128 .f32)
    (x0 : Vec F S1x512x1024 .f32) (x1 : Vec F S1x1024 .f32) (x2 : Vec F S1024x5632 .bf16) (x3 : Vec F S22x8x256 .f32)
    (x4 : Vec F S22x1x256 .f32) (x5 : Vec F S2816x1024 .bf16) (tl : ℕ → ℕ → Vec F S1x1x8x128 .f32) : Ins F where
  v9 := arg9.view
  v10 := arg10.view
  v11 := arg11.view
  v13 := arg13.view
  v14 := arg14.view
  x := View.readAt (Elt F) arg2.view
    (Rect.unit ![0, 0, 0] S1x512x1024.size inb_S1x512x1024_S1x512x1024_0_0_0).toLoadRect (harg2.unread x0)
  g := View.readAt (Elt F) arg3.view (Rect.unit ![0, 0] S1x1024.size inb_S1x1024_S1x1024_0_0).toLoadRect (harg3.unread x1)
  wu k := View.readAt (Elt F) arg4.view (Rect.unit (s := S1024x5632) ![0, k % 5377] S1024x256.size (inbW k)).toLoadRect (harg4.unread x2)
  cw i t q := View.readAt (Elt F) arg5.view (Rect.unit (s := S22x8x256) ![i % 22, t % 8, q % 2 * 128] S1x1x128.size (inbCw i t q)).toLoadRect
    (harg5.unread x3)
  cb i := View.readAt (Elt F) arg6.view (Rect.unit (s := S22x1x256) ![i % 22, 0, 0] S1x1x256.size (inbCb i)).toLoadRect (harg6.unread x4)
  wd := View.readAt (Elt F) arg7.view (Rect.unit ![0, 0] S2816x1024.size inb_S2816x1024_S2816x1024_0_0).toLoadRect (harg7.unread x5)
  xq q := View.readAt (Elt F) arg2.view (Rect.unit (s := S1x512x1024) ![0, 0, q * 128 % 897] S1x512x128.size (inbOut (q * 128))).toLoadRect
    (harg2.unread x0)
  tl := tl

/-- Tail rows that nothing reads (the new tail rows do not depend on the old ones). -/
def noTail (_ _ : ℕ) : Vec F S1x1x8x128 .f32 := broadcast S1x1x8x128 (Scalar.ofBits .f32 0x00000000#32 : F .f32)

/-- The tail rows a point finds after the zero store, read through the stores of new tail rows made so far. -/
def tlA (v : View sig .tc .vmem S11x4x8x128 .f32) (I : Ins F) (c s : ℕ) : Vec F S1x1x8x128 .f32 :=
  v.readCov (tailList I [⟨Rect.unit ![0, 0, 0, 0] S11x4x8x128.size inb_S11x4x8x128_S11x4x8x128_0_0_0_0, k0_pay2⟩] (c * 4 + s))
    (Rect.unit (s := S11x4x8x128) ![c % 11, s % 4, 0, 0] S1x1x8x128.size (inbTail c s)).toLoadRect

/-- The first point of a row of tiles: the stores of new tail rows, over the zero store. -/
theorem tail_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S22x8x256 .f32) (harg5 : arg5.IsWhole) (arg6 : Memref sig .tc .vmem S22x1x256 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S4x520x128 .f32) (harg10 : arg10.IsWhole) (arg11 : Memref sig .tc .vmem S4x520x128 .f32) (harg11 : arg11.IsWhole) (arg12 : Memref sig .tc .vmem S11x4x8x128 .f32) (harg12 : arg12.IsWhole) (arg13 : Memref sig .tc .vmem S512x2816 .bf16) (harg13 : arg13.IsWhole) (arg14 : Memref sig .tc .vmem S8x512x128 .f32) (harg14 : arg14.IsWhole) (hc0 : cond0_0 i)
    (x0 : Vec F S1x512x1024 .f32) (x1 : Vec F S1x1024 .f32) (x2 : Vec F S1024x5632 .bf16) (x3 : Vec F S22x8x256 .f32) (x4 : Vec F S22x1x256 .f32) (x5 : Vec F S2816x1024 .bf16) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1 =
      tailList (ins arg2 harg2 arg3 harg3 arg4 harg4 arg5 harg5 arg6 harg6 arg7 harg7 arg9 arg10 arg11 arg13 arg14 x0 x1 x2 x3 x4 x5 noTail)
        [⟨Rect.unit ![0, 0, 0, 0] S11x4x8x128.size inb_S11x4x8x128_S11x4x8x128_0_0_0_0, k0_pay2⟩] 44 := by
  sl_kernel_rfl

/-- The first point of a row of tiles: the stores into the output. -/
theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S22x8x256 .f32) (harg5 : arg5.IsWhole) (arg6 : Memref sig .tc .vmem S22x1x256 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S4x520x128 .f32) (harg10 : arg10.IsWhole) (arg11 : Memref sig .tc .vmem S4x520x128 .f32) (harg11 : arg11.IsWhole) (arg12 : Memref sig .tc .vmem S11x4x8x128 .f32) (harg12 : arg12.IsWhole) (arg13 : Memref sig .tc .vmem S512x2816 .bf16) (harg13 : arg13.IsWhole) (arg14 : Memref sig .tc .vmem S8x512x128 .f32) (harg14 : arg14.IsWhole) (hc0 : cond0_0 i)
    (x0 : Vec F S1x512x1024 .f32) (x1 : Vec F S1x1024 .f32) (x2 : Vec F S1024x5632 .bf16) (x3 : Vec F S22x8x256 .f32) (x4 : Vec F S22x1x256 .f32) (x5 : Vec F S2816x1024 .bf16) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1 =
      outList (ins arg2 harg2 arg3 harg3 arg4 harg4 arg5 harg5 arg6 harg6 arg7 harg7 arg9 arg10 arg11 arg13 arg14 x0 x1 x2 x3 x4 x5
        (tlA arg12.view (ins arg2 harg2 arg3 harg3 arg4 harg4 arg5 harg5 arg6 harg6 arg7 harg7 arg9 arg10 arg11 arg13 arg14 x0 x1 x2 x3 x4 x5 noTail))) 8 := by
  sl_kernel_rfl

/-- The tail rows a later point finds: the carried ones. -/
def tlB (arg12 : Memref sig .tc .vmem S11x4x8x128 .f32) (harg12 : arg12.IsWhole) (xs3 : Vec F S11x4x8x128 .f32) (c s : ℕ) :
    Vec F S1x1x8x128 .f32 :=
  View.readAt (Elt F) arg12.view (Rect.unit (s := S11x4x8x128) ![c % 11, s % 4, 0, 0] S1x1x8x128.size (inbTail c s)).toLoadRect
    (harg12.unread xs3)

/-- A later point: the stores of new tail rows. -/
theorem tail_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S22x8x256 .f32) (harg5 : arg5.IsWhole) (arg6 : Memref sig .tc .vmem S22x1x256 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S4x520x128 .f32) (harg10 : arg10.IsWhole) (arg11 : Memref sig .tc .vmem S4x520x128 .f32) (harg11 : arg11.IsWhole) (arg12 : Memref sig .tc .vmem S11x4x8x128 .f32) (harg12 : arg12.IsWhole) (arg13 : Memref sig .tc .vmem S512x2816 .bf16) (harg13 : arg13.IsWhole) (arg14 : Memref sig .tc .vmem S8x512x128 .f32) (harg14 : arg14.IsWhole) (hc0 : ¬cond0_0 i)
    (x0 : Vec F S1x512x1024 .f32) (x1 : Vec F S1x1024 .f32) (x2 : Vec F S1024x5632 .bf16) (x3 : Vec F S22x8x256 .f32) (x4 : Vec F S22x1x256 .f32) (x5 : Vec F S2816x1024 .bf16) (xs3 : Vec F S11x4x8x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs3).2.1 = tailList (ins arg2 harg2 arg3 harg3 arg4 harg4 arg5 harg5 arg6 harg6 arg7 harg7 arg9 arg10 arg11 arg13 arg14 x0 x1 x2 x3 x4 x5 noTail) [] 44 := by
  sl_kernel_rfl

/-- A later point: the stores into the output. -/
theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S22x8x256 .f32) (harg5 : arg5.IsWhole) (arg6 : Memref sig .tc .vmem S22x1x256 .f32) (harg6 : arg6.IsWhole) (arg7 : Memref sig .tc .vmem S2816x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S4x520x128 .f32) (harg10 : arg10.IsWhole) (arg11 : Memref sig .tc .vmem S4x520x128 .f32) (harg11 : arg11.IsWhole) (arg12 : Memref sig .tc .vmem S11x4x8x128 .f32) (harg12 : arg12.IsWhole) (arg13 : Memref sig .tc .vmem S512x2816 .bf16) (harg13 : arg13.IsWhole) (arg14 : Memref sig .tc .vmem S8x512x128 .f32) (harg14 : arg14.IsWhole) (hc0 : ¬cond0_0 i)
    (x0 : Vec F S1x512x1024 .f32) (x1 : Vec F S1x1024 .f32) (x2 : Vec F S1024x5632 .bf16) (x3 : Vec F S22x8x256 .f32) (x4 : Vec F S22x1x256 .f32) (x5 : Vec F S2816x1024 .bf16) (xs3 : Vec F S11x4x8x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs3).1 = outList (ins arg2 harg2 arg3 harg3 arg4 harg4 arg5 harg5 arg6 harg6 arg7 harg7 arg9 arg10 arg11 arg13 arg14 x0 x1 x2 x3 x4 x5 (tlB arg12 harg12 xs3)) 8 := by
  sl_kernel_rfl

end Cert.Ffn.Model

end
-- ==== Proof.Tile.lean ====
/-
One tile of the feed-forward half, over the extended reals and plain coordinates: `Data` is what a grid point reads,
`Reads` says that its loads are those arrays, and the lemmas here give the normalised tile and the up projection.
-/
module

public import proofs.«01_k».proof.Proof.Model
public import Idealize.ShloMosaic.Lib.ValueIdx
public import Idealize.ShloMosaic.Lib.MatmulPlain
public import Idealize.ShloMosaic.Lib.Pipeline.Value

@[expose] public section

noncomputable section

namespace Cert.Ffn

open Idealize.ShloMosaic Idealize.ShloMosaic.TcCoe Idealize.ShloMosaic.ValueIdx
open Cert.KernelIdeal Cert.KernelIdeal.Gen

/-- What a grid point reads: 512 rows of `x`, the gain, the up projection, the taps and bias of the convolution, the
    down projection, and the eight rows of the up projection before the tile. -/
structure Data where
  X : ℕ → ℕ → EReal
  G : ℕ → EReal
  W : ℕ → ℕ → EReal
  Cw : ℕ → ℕ → EReal
  Cb : ℕ → EReal
  Wd : ℕ → ℕ → EReal
  T : ℕ → ℕ → EReal

namespace Data

variable (D : Data)

/-- The normalised row `p` at column `k`. -/
def h (p k : ℕ) : EReal :=
  D.X p k
      * Ideal.rsqrt (Ideal.div (∑ j : Fin 1024, D.X p j * D.X p j) (Ideal.ofBits .f32 0x44800000#32)
        + Ideal.ofBits .f32 0x358637BD#32)
    * D.G k

/-- Its product with column `f` of the up projection, -/
def u (p f : ℕ) : EReal := ∑ k : Fin 1024, D.h p k * D.W k f

/-- with the eight rows before the tile in front. -/
def up (p f : ℕ) : EReal := if p < 8 then D.T p f else D.u (p - 8) f

/-- The convolution, -/
def y (p f : ℕ) : EReal := D.Cb f + D.Cw 0 f * D.up (p + 6) f + D.Cw 1 f * D.up (p + 7) f + D.Cw 2 f * D.up (p + 8) f

/-- the gated activation, -/
def act (p f : ℕ) : EReal := D.y p f * Ideal.logistic (D.y p f) * D.y p (f + 2816)

/-- the down projection, -/
def down (p n : ℕ) : EReal := ∑ f : Fin 2816, D.act p f * D.Wd f n

/-- and the result. -/
def out (p n : ℕ) : EReal := D.X p n + D.down p n

end Data

/-- The first column of slab `s` of chunk `c`. -/
def col (c s : ℕ) : ℕ := s / 2 * 2816 + c * 256 + s % 2 * 128

/-- The loads of `I` are the arrays of `D` (all but the tail rows). -/
structure Reads (I : Model.Ins Ideal) (D : Data) : Prop where
  x : ∀ j, I.x j = D.X (j 1).val (j 2).val
  g : ∀ j, I.g j = D.G (j 1).val
  wu : ∀ k, k ≤ 5376 → ∀ j, I.wu k j = D.W (j 0).val (k + (j 1).val)
  cw : ∀ i t q, i < 22 → t < 3 → q < 2 → ∀ j, I.cw i t q j = D.Cw t (i * 256 + q * 128 + (j 2).val)
  cb : ∀ i, i < 22 → ∀ j, I.cb i j = D.Cb (i * 256 + (j 2).val)
  wd : ∀ j, I.wd j = D.Wd (j 0).val (j 1).val
  xq : ∀ q, q < 8 → ∀ j, I.xq q j = D.X (j 1).val (q * 128 + (j 2).val)

/-- The tail rows of `I` are those of `D`. -/
def ReadsTail (I : Model.Ins Ideal) (D : Data) : Prop :=
  ∀ c s, c < 11 → s < 4 → ∀ j, I.tl c s j = D.T (j 2).val (col c s + (j 3).val)

/-- A matrix product whose operands' entries are named by coordinates. -/
theorem matmul_at {M K N : ℕ} {φ₁ φ₂ : FTy} (lhs : FVec Ideal ⟨2, ![M, K]⟩ φ₁) (rhs : FVec Ideal ⟨2, ![K, N]⟩ φ₂)
    (L R : ℕ → ℕ → EReal) (hl : ∀ j, lhs j = L (j 0).val (j 1).val) (hr : ∀ j, rhs j = R (j 0).val (j 1).val)
    (j : (⟨2, ![M, N]⟩ : Shape).Idx) :
    FloatOps.matmul (DotDims.plain M K N) none lhs rhs (constant ⟨2, ![M, N]⟩ .f32 0x00000000#32) j
      = ∑ k : Fin K, L (j 0).val k.val * R k.val (j 1).val := by
  obtain ⟨r, c, rfl⟩ : ∃ (r : Fin M) (c : Fin N), j = ix2 r c := ⟨j 0, j 1, eq_ix2 j⟩
  rw [Ideal.matmul_plain_apply]
  show Ideal.ofBits .f32 0x00000000#32 + _ = _
  rw [Ideal.ofBits_zero_f32, zero_add]
  exact Finset.sum_congr rfl fun k _ => by rw [hl, hr]; rfl

namespace Reads

open Model

variable {I : Ins Ideal} {D : Data} (R : Reads I D)
include R

/-- The normalised tile. -/
theorem h_at (j : S512x1024.Idx) : Model.h I j = D.h (j 0).val (j 1).val := by
  have hx : ∀ i : S512x1024.Idx, shapeCast S512x1024 I.x shapeCasts_S1x512x1024_S512x1024 i = D.X (i 0).val (i 1).val :=
    fun i => (shapeCast_dropUnit_apply ![512, 1024] I.x _ i).trans (R.x _)
  unfold Model.h
  rw [View.readCov_cons_toLoadRect]
  unfold k0_pay3
  dsimp only
  rw [shapeCast_self, shapeCast_self, truncf_apply, mulf_apply, mulf_apply, hx]
  refine congrArg₂ (· * ·) (congrArg₂ (· * ·) rfl ?_) ?_
  · refine (broadcastTo_apply _ _ j (ix2 (n0 := 512) (n1 := 1) (j 0) 0) (fun a => match a with | ⟨0, _⟩ => rfl | ⟨1, _⟩ => rfl)).trans ?_
    refine congrArg Ideal.rsqrt (congrArg₂ (· + ·) (congrArg₂ Ideal.div ?_ rfl) rfl)
    refine (shapeCast_apply _ _ (ix2 (n0 := 512) (n1 := 1) (j 0) 0) (ix1 (n := 512) (j 0)) ?_).trans ?_
    · rw [Shape.rowMajor_val_one, Shape.rowMajor_val_two]; exact (Nat.mul_one (j 0).val).symm
    refine (Ideal.multiReduction_add_single (mulf _ _) 0x00000000#32 reduces_S512x1024_S512 (.inl rfl) rfl (ix1 (n := 512) (j 0))).trans ?_
    refine Finset.sum_congr rfl fun k _ => ?_
    rw [mulf_apply, hx]
    rfl
  · refine (broadcastTo_apply _ _ j (ix2 (n0 := 1) (n1 := 1024) 0 (j 1)) (fun a => match a with | ⟨0, _⟩ => rfl | ⟨1, _⟩ => rfl)).trans ?_
    exact R.g _

/-- The up projection of a chunk. -/
theorem res_at (c d : ℕ) (hc : c < 11) (hd : d < 2) (j : S512x256.Idx) :
    res I c d j = D.u (j 0).val (d * 2816 + c * 256 + (j 1).val) := by
  unfold res
  rw [shapeCast_self]
  exact matmul_at _ _ D.h (fun k f => D.W k (d * 2816 + c * 256 + f)) R.h_at (R.wu _ (by omega)) j

end Reads

end Cert.Ffn

end
-- ==== Proof.Buffers.lean ====
/-
What the scratch buffers of a grid point hold, entry by entry: the up-projected columns with the tail rows in front,
the rows read out of them in the interleaved order, and the new tail rows.
-/
module

public import proofs.«01_k».proof.Proof.Tile

@[expose] public section

noncomputable section

namespace Cert.Ffn

open Idealize.ShloMosaic Idealize.ShloMosaic.TcCoe Idealize.ShloMosaic.ValueIdx
open Cert.KernelIdeal Cert.KernelIdeal.Gen

section Stores

variable {Val : EltTy → Type} [∀ e, Nonempty (Val e)] {S : Shape} {e : EltTy}

/-- Stores that agree with `G` decide the entries they reach, whatever was stored before. -/
theorem canon_append (G : S.Idx → Val e) (L : List (View.Piece Val S e)) :
    ∀ (P : List (View.Piece Val S e)) (_ : ∀ p ∈ P, ∀ x : p.1.shape.Idx, p.2 x = G (p.1.emb x)) (y : S.Idx)
      (_ : ∃ p ∈ P, y ∈ p.1.set), View.canon (P ++ L) y = G y
  | [], _, _, hy => by obtain ⟨p, hp, _⟩ := hy; simp at hp
  | p :: P, hP, y, hy => by
    rw [List.cons_append]
    by_cases hm : y ∈ p.1.set
    · obtain ⟨x, rfl⟩ := p.1.exists_idx_of_mem hm
      exact (View.canon_cons_emb p.1 p.2 _ x).trans (hP p (by simp) x)
    · rw [View.canon_cons_of_not_mem _ _ hm]
      obtain ⟨q, hq, hyq⟩ := hy
      rcases List.mem_cons.mp hq with rfl | hq'
      · exact absurd hyq hm
      · exact canon_append G L P (fun q hq => hP q (by simp [hq])) y ⟨q, hq', hyq⟩

/-- The same for stores made one after the other, the `n`-th being `f n`. -/
theorem canon_stack (f : ℕ → View.Piece Val S e) (L : ℕ → List (View.Piece Val S e)) (hL : ∀ n, L (n + 1) = f n :: L n)
    (G : S.Idx → Val e) (y : S.Idx) :
    ∀ N (_ : ∀ n, n < N → ∀ x : (f n).1.shape.Idx, (f n).2 x = G ((f n).1.emb x)) (_ : ∃ n, n < N ∧ y ∈ (f n).1.set),
      View.canon (L N) y = G y
  | 0, _, hy => by obtain ⟨n, hn, _⟩ := hy; omega
  | N + 1, hf, hy => by
    rw [hL]
    by_cases hm : y ∈ (f N).1.set
    · obtain ⟨x, rfl⟩ := (f N).1.exists_idx_of_mem hm
      exact (View.canon_cons_emb (f N).1 (f N).2 _ x).trans (hf N (by omega) x)
    · rw [View.canon_cons_of_not_mem _ _ hm]
      obtain ⟨n, hn, hyn⟩ := hy
      have : n ≠ N := fun h => hm (h ▸ hyn)
      exact canon_stack f L hL G y N (fun n hn => hf n (by omega)) ⟨n, by omega, hyn⟩

/-- An entry none of them reaches keeps what the list held before. -/
theorem canon_stack_keep (f : ℕ → View.Piece Val S e) (L : ℕ → List (View.Piece Val S e)) (hL : ∀ n, L (n + 1) = f n :: L n)
    (y : S.Idx) : ∀ N (_ : ∀ n, n < N → y ∉ (f n).1.set), View.canon (L N) y = View.canon (L 0) y
  | 0, _ => rfl
  | N + 1, h => by
    rw [hL, View.canon_cons_of_not_mem _ _ (h N (by omega))]
    exact canon_stack_keep f L hL y N fun n hn => h n (by omega)

end Stores

/-- The row a position in the interleaved order stands for. -/
def perm (p : ℕ) : ℕ := p / 32 * 32 + p / 8 % 4 + p % 8 * 4

namespace Reads

open Model

variable {I : Ins Ideal} {D : Data} (R : Reads I D)
include R

/-- 128 columns of a chunk. -/
theorem slice_at {t : Shape} (o c s : ℕ) (hc : c < 11) (hs : s < 4) (h : S512x256.Slices ![o, s % 2 * 128] t) (j : t.Idx)
    (p l : ℕ) (hp : (j ⟨0, h.1 ▸ (by decide : 0 < 2)⟩).val = p) (hl : (j ⟨1, h.1 ▸ (by decide : 1 < 2)⟩).val = l)
    (hpo : o + p < 512) (hll : l < 128) :
    extractStridedSlice t ![o, s % 2 * 128] (res I c (s / 2)) h j = D.u (o + p) (col c s + l) := by
  subst hp hl
  refine (extractStridedSlice_apply _ _ h j (ix2 (n0 := 512) (n1 := 256) ⟨o + (j ⟨0, h.1 ▸ (by decide : 0 < 2)⟩).val, hpo⟩
      ⟨s % 2 * 128 + (j ⟨1, h.1 ▸ (by decide : 1 < 2)⟩).val, by omega⟩)
    (fun a => match a with | ⟨0, _⟩ => rfl | ⟨1, _⟩ => rfl)).trans ?_
  rw [R.res_at c (s / 2) hc (by omega)]
  show D.u _ (s / 2 * 2816 + c * 256 + (s % 2 * 128 + _)) = D.u _ (s / 2 * 2816 + c * 256 + s % 2 * 128 + _)
  rw [Nat.add_assoc (s / 2 * 2816 + c * 256)]

/-- The entry of a chunk's buffer. -/
def upAt (D : Data) (c : ℕ) (y : S4x520x128.Idx) : EReal := D.up (y 1).val (col c (y 0).val + (y 2).val)

theorem body_at (c s : ℕ) (hc : c < 11) (hs : s < 4) (x : S1x512x128.Idx) :
    shapeCast S1x512x128 (extractStridedSlice S512x128 ![0, s % 2 * 128] (res I c (s / 2)) (slRes s))
      shapeCasts_S512x128_S1x512x128 x = D.u (x 1).val (col c s + (x 2).val) := by
  have h1 : (x 1).val < 512 := (x 1).isLt
  refine (shapeCast_addUnit_apply ![512, 128] _ shapeCasts_S512x128_S1x512x128 x).trans ?_
  refine (R.slice_at 0 c s hc hs (slRes s) _ (x 1).val (x 2).val rfl rfl (by omega) (x 2).isLt).trans ?_
  rw [Nat.zero_add]

theorem bodyPiece_at (c s : ℕ) (hc : c < 11) (hs : s < 4) (x : (bodyPiece I c s).1.shape.Idx) :
    (bodyPiece I c s).2 x = upAt D c ((bodyPiece I c s).1.emb x) := by
  have h0 : (x 0).val < 1 := (x 0).isLt
  refine (R.body_at c s hc hs x).trans ?_
  show _ = D.up (8 + 1 * (x 1).val) (col c (s % 4 + 1 * (x 0).val) + (0 + 1 * (x 2).val))
  unfold Data.up
  rw [if_neg (by omega), show 8 + 1 * (x 1).val - 8 = (x 1).val by omega, show s % 4 + 1 * (x 0).val = s by omega, Nat.zero_add,
    Nat.one_mul]

omit R in
theorem top_at (hT : ReadsTail I D) (c s : ℕ) (hc : c < 11) (hs : s < 4) (x : S1x8x128.Idx) :
    shapeCast S1x8x128 (shapeCast S8x128 (I.tl c s) shapeCasts_S1x1x8x128_S8x128) shapeCasts_S8x128_S1x8x128 x
      = D.T (x 1).val (col c s + (x 2).val) := by
  refine (shapeCast_addUnit_apply ![8, 128] _ shapeCasts_S8x128_S1x8x128 x).trans ?_
  refine (shapeCast_apply (I.tl c s) shapeCasts_S1x1x8x128_S8x128 _
    (ix4 (n0 := 1) (n1 := 1) (n2 := 8) (n3 := 128) 0 0 (x 1) (x 2)) ?_).trans (hT c s hc hs _)
  refine (Shape.rowMajor_val_four _).trans (Eq.trans ?_ (Shape.rowMajor_val_two (d := ![8, 128]) _).symm)
  show ((0 * 1 + 0) * 8 + (x 1).val) * 128 + (x 2).val = (x 1).val * 128 + (x 2).val
  omega

omit R in
theorem topPiece_at (hT : ReadsTail I D) (c s : ℕ) (hc : c < 11) (hs : s < 4) (x : (topPiece I c s).1.shape.Idx) :
    (topPiece I c s).2 x = upAt D c ((topPiece I c s).1.emb x) := by
  have h0 : (x 0).val < 1 := (x 0).isLt
  have h1 : (x 1).val < 8 := (x 1).isLt
  refine (top_at hT c s hc hs x).trans ?_
  show D.T (x 1).val (col c s + (x 2).val) = D.up (0 + 1 * (x 1).val) (col c (s % 4 + 1 * (x 0).val) + (0 + 1 * (x 2).val))
  unfold Data.up
  rw [if_pos (by omega), show s % 4 + 1 * (x 0).val = s by omega, Nat.zero_add, Nat.one_mul, Nat.zero_add, Nat.one_mul]

theorem uPut_at (hT : ReadsTail I D) (c : ℕ) (hc : c < 11) (L : List (View.Piece (Elt Ideal) S4x520x128 .f32)) (y : S4x520x128.Idx) :
    View.canon (uPut I c L) y = upAt D c y := by
  refine canon_append (upAt D c) L [bodyPiece I c 3, topPiece I c 3, bodyPiece I c 2, topPiece I c 2, bodyPiece I c 1, topPiece I c 1,
    bodyPiece I c 0, topPiece I c 0] ?_ y ?_
  · intro p hp
    simp only [List.mem_cons, List.not_mem_nil, or_false] at hp
    rcases hp with rfl | rfl | rfl | rfl | rfl | rfl | rfl | rfl
    · exact R.bodyPiece_at c 3 hc (by omega)
    · exact topPiece_at hT c 3 hc (by omega)
    · exact R.bodyPiece_at c 2 hc (by omega)
    · exact topPiece_at hT c 2 hc (by omega)
    · exact R.bodyPiece_at c 1 hc (by omega)
    · exact topPiece_at hT c 1 hc (by omega)
    · exact R.bodyPiece_at c 0 hc (by omega)
    · exact topPiece_at hT c 0 hc (by omega)
  · have h0 : (y 0).val < 4 := (y 0).isLt
    have h1 : (y 1).val < 520 := (y 1).isLt
    have h2 : (y 2).val < 128 := (y 2).isLt
    by_cases h : (y 1).val < 8
    · refine ⟨topPiece I c (y 0).val, ?_, ?_⟩
      · have : (y 0).val = 0 ∨ (y 0).val = 1 ∨ (y 0).val = 2 ∨ (y 0).val = 3 := by omega
        rcases this with h | h | h | h <;> rw [h] <;> simp
      · exact (Rect.mem_set_unit (inb := inbTop (y 0).val)).mpr fun a => match a with
          | ⟨0, _⟩ => show (y 0).val % 4 ≤ (y 0).val ∧ (y 0).val < (y 0).val % 4 + 1 by omega
          | ⟨1, _⟩ => show 0 ≤ (y 1).val ∧ (y 1).val < 0 + 8 by omega
          | ⟨2, _⟩ => show 0 ≤ (y 2).val ∧ (y 2).val < 0 + 128 by omega
    · refine ⟨bodyPiece I c (y 0).val, ?_, ?_⟩
      · have : (y 0).val = 0 ∨ (y 0).val = 1 ∨ (y 0).val = 2 ∨ (y 0).val = 3 := by omega
        rcases this with h | h | h | h <;> rw [h] <;> simp
      · exact (Rect.mem_set_unit (inb := inbBody (y 0).val)).mpr fun a => match a with
          | ⟨0, _⟩ => show (y 0).val % 4 ≤ (y 0).val ∧ (y 0).val < (y 0).val % 4 + 1 by omega
          | ⟨1, _⟩ => show 8 ≤ (y 1).val ∧ (y 1).val < 8 + 512 by omega
          | ⟨2, _⟩ => show 0 ≤ (y 2).val ∧ (y 2).val < 0 + 128 by omega

/-- Eight rows at stride four. -/
theorem rows8_at (hT : ReadsTail I D) (c s r : ℕ) (hc : c < 11) (hs : s < 4) (hr : r < 492) (j : S8x128.Idx) :
    rows8 I c s r j = D.up (r + 4 * (j 0).val) (col c s + (j 1).val) := by
  obtain ⟨L, hL⟩ : ∃ L, uList I c = uPut I c L := match c with
    | 0 => ⟨_, rfl⟩
    | 1 => ⟨_, rfl⟩
    | _ + 2 => ⟨_, rfl⟩
  unfold rows8
  refine (shapeCast_dropUnit_apply ![8, 128] _ shapeCasts_S1x8x128_S8x128 j).trans ?_
  rw [View.readCov_eq_canon', hL]
  refine (R.uPut_at hT c hc L _).trans ?_
  show D.up (r % 492 + 4 * (j 0).val) (col c (s % 4 + 1 * 0) + (0 + 1 * (j 1).val)) = _
  rw [Nat.mod_eq_of_lt hr, show s % 4 + 1 * 0 = s by omega, Nat.zero_add, Nat.one_mul]

/-- 128 rows in the interleaved order. -/
theorem rows_at (hT : ReadsTail I D) (c s r : ℕ) (hc : c < 11) (hs : s < 4) (hr : r < 393) (j : S128x128.Idx) :
    rows I c s r j = D.up (r + perm (j 0).val) (col c s + (j 1).val) := by
  have h0 : (j 0).val < 128 := (j 0).isLt
  have h := concatenate_ofFn_apply (t := S128x128) (s₁ := S8x128) 0 (N := 16)
    (fun n => rows8 I c s (r + (n.val / 4 * 32 + n.val % 4)))
    concatenates_S8x128_S8x128_S8x128_S8x128_S8x128_S8x128_S8x128_S8x128_S8x128_S8x128_S8x128_S8x128_S8x128_S8x128_S8x128_S8x128_S128x128_d0
    rfl 8 rfl j ⟨(j 0).val / 8, by omega⟩ rfl (ix2 (n0 := 8) (n1 := 128) ⟨(j 0).val % 8, by omega⟩ (j 1)) rfl
    (fun b hb => match b with | ⟨0, _⟩ => absurd rfl hb | ⟨1, _⟩ => rfl)
  refine Eq.trans ?_ (h.trans ?_)
  · rfl
  · rw [R.rows8_at hT c s _ hc hs (by show r + ((j 0).val / 8 / 4 * 32 + (j 0).val / 8 % 4) < 492; omega)]
    show D.up (r + ((j 0).val / 8 / 4 * 32 + (j 0).val / 8 % 4) + 4 * ((j 0).val % 8)) _ = _
    unfold perm
    rw [show r + ((j 0).val / 8 / 4 * 32 + (j 0).val / 8 % 4) + 4 * ((j 0).val % 8)
      = r + ((j 0).val / 32 * 32 + (j 0).val / 8 % 4 + (j 0).val % 8 * 4) by omega]

/-! ## The new tail rows -/

/-- A tail row's entry. -/
def tailAt (D : Data) (y : S11x4x8x128.Idx) : EReal := D.u (504 + (y 2).val) (col (y 0).val (y 1).val + (y 3).val)

theorem tail_at (c s : ℕ) (hc : c < 11) (hs : s < 4) (x : S1x1x8x128.Idx) :
    shapeCast S1x1x8x128 (extractStridedSlice S8x128 ![504, s % 2 * 128] (res I c (s / 2)) (slTail s))
      shapeCasts_S8x128_S1x1x8x128 x = D.u (504 + (x 2).val) (col c s + (x 3).val) := by
  have h0 : (x 0).val < 1 := (x 0).isLt
  have h1 : (x 1).val < 1 := (x 1).isLt
  have h2 : (x 2).val < 8 := (x 2).isLt
  refine (shapeCast_apply _ shapeCasts_S8x128_S1x1x8x128 x (ix2 (n0 := 8) (n1 := 128) (x 2) (x 3)) ?_).trans
    (R.slice_at 504 c s hc hs (slTail s) _ (x 2).val (x 3).val rfl rfl (by omega) (x 3).isLt)
  rw [Shape.rowMajor_val_four, Shape.rowMajor_val_two]
  show (x 2).val * 128 + (x 3).val = (((x 0).val * 1 + (x 1).val) * 8 + (x 2).val) * 128 + (x 3).val
  omega

theorem tailPiece_at (c s : ℕ) (hc : c < 11) (hs : s < 4) (x : (tailPiece I c s).1.shape.Idx) :
    (tailPiece I c s).2 x = tailAt D ((tailPiece I c s).1.emb x) := by
  have h0 : (x 0).val < 1 := (x 0).isLt
  have h1 : (x 1).val < 1 := (x 1).isLt
  refine (R.tail_at c s hc hs x).trans ?_
  show _ = D.u (504 + (0 + 1 * (x 2).val)) (col (c % 11 + 1 * (x 0).val) (s % 4 + 1 * (x 1).val) + (0 + 1 * (x 3).val))
  rw [show c % 11 + 1 * (x 0).val = c by omega, show s % 4 + 1 * (x 1).val = s by omega, Nat.zero_add, Nat.one_mul, Nat.zero_add, Nat.one_mul]

/-- The carried rows after the point, whatever they were before. -/
theorem tailList_at (B : List (View.Piece (Elt Ideal) S11x4x8x128 .f32)) (y : S11x4x8x128.Idx) :
    View.canon (tailList I B 44) y = tailAt D y := by
  have h0 : (y 0).val < 11 := (y 0).isLt
  have h1 : (y 1).val < 4 := (y 1).isLt
  have h2 : (y 2).val < 8 := (y 2).isLt
  have h3 : (y 3).val < 128 := (y 3).isLt
  refine canon_stack (fun n => tailPiece I (n / 4) (n % 4)) (tailList I B) (fun _ => rfl) (tailAt D) y 44
    (fun n hn => R.tailPiece_at (n / 4) (n % 4) (by omega) (by omega)) ⟨(y 0).val * 4 + (y 1).val, by omega, ?_⟩
  have e0 : ((y 0).val * 4 + (y 1).val) / 4 % 11 = (y 0).val := by omega
  have e1 : ((y 0).val * 4 + (y 1).val) % 4 % 4 = (y 1).val := by omega
  exact (Rect.mem_set_unit (inb := inbTail (((y 0).val * 4 + (y 1).val) / 4) (((y 0).val * 4 + (y 1).val) % 4))).mpr fun a => match a with
    | ⟨0, _⟩ => show ((y 0).val * 4 + (y 1).val) / 4 % 11 ≤ (y 0).val ∧ (y 0).val < ((y 0).val * 4 + (y 1).val) / 4 % 11 + 1 by omega
    | ⟨1, _⟩ => show ((y 0).val * 4 + (y 1).val) % 4 % 4 ≤ (y 1).val ∧ (y 1).val < ((y 0).val * 4 + (y 1).val) % 4 % 4 + 1 by omega
    | ⟨2, _⟩ => show 0 ≤ (y 2).val ∧ (y 2).val < 0 + 8 by omega
    | ⟨3, _⟩ => show 0 ≤ (y 3).val ∧ (y 3).val < 0 + 128 by omega

end Reads

end Cert.Ffn

end
-- ==== Proof.Output.lean ====
/-
What a grid point stores into its output window, entry by entry: the gated convolution in the interleaved row order,
its product with the down projection, and the two stores that put the rows back in order and add the input.
-/
module

public import proofs.«01_k».proof.Proof.Buffers

@[expose] public section

noncomputable section

namespace Cert.Ffn

open Idealize.ShloMosaic Idealize.ShloMosaic.TcCoe Idealize.ShloMosaic.ValueIdx
open Cert.KernelIdeal Cert.KernelIdeal.Gen

namespace Reads

open Model

variable {I : Ins Ideal} {D : Data} (R : Reads I D) (hT : ReadsTail I D)
include R hT

/-- One tap of the convolution. -/
theorem tap_at (c d q t r : ℕ) (hc : c < 11) (hd : d < 2) (hq : q < 2) (ht : t < 3) (hr : r < 393) (j : S128x128.Idx) :
    tap I c d q t r j = D.Cw t (d * 2816 + c * 256 + q * 128 + (j 1).val)
      * D.up (r + perm (j 0).val) (d * 2816 + c * 256 + q * 128 + (j 1).val) := by
  unfold tap
  rw [mulf_apply, R.rows_at hT c (d * 2 + q) r hc (by omega) hr]
  refine congrArg₂ (· * ·) ?_ ?_
  · refine (broadcastTo_apply _ broadcasts_S1x128_S128x128 j (ix2 (n0 := 1) (n1 := 128) 0 (j 1))
      (fun a => match a with | ⟨0, _⟩ => rfl | ⟨1, _⟩ => rfl)).trans ?_
    refine (shapeCast_dropUnit_apply ![1, 128] (I.cw (c + d * 11) t q) shapeCasts_S1x1x128_S1x128 _).trans ?_
    refine (R.cw _ _ _ (by omega) ht hq _).trans ?_
    show D.Cw t ((c + d * 11) * 256 + q * 128 + (j 1).val) = _
    rw [show (c + d * 11) * 256 + q * 128 = d * 2816 + c * 256 + q * 128 by omega]
  · unfold col
    rw [show (d * 2 + q) / 2 = d by omega, show (d * 2 + q) % 2 = q by omega]

/-- The convolution. -/
theorem y_at (c d q r : ℕ) (hc : c < 11) (hd : d < 2) (hq : q < 2) (hr : r < 4) (j : S128x128.Idx) :
    y I c d q r j = D.y (r * 128 + perm (j 0).val) (d * 2816 + c * 256 + q * 128 + (j 1).val) := by
  have hb : broadcastTo S128x128
        (extractStridedSlice S1x128 ![0, q % 2 * 128] (shapeCast S1x256 (I.cb (c + d * 11)) shapeCasts_S1x1x256_S1x256)
          (slBias q)) broadcasts_S1x128_S128x128 j = D.Cb (d * 2816 + c * 256 + q * 128 + (j 1).val) := by
    have hj : (j 1).val < 128 := (j 1).isLt
    refine (broadcastTo_apply _ broadcasts_S1x128_S128x128 j (ix2 (n0 := 1) (n1 := 128) 0 (j 1))
      (fun a => match a with | ⟨0, _⟩ => rfl | ⟨1, _⟩ => rfl)).trans ?_
    refine (extractStridedSlice_apply _ _ (slBias q) _ (ix2 (n0 := 1) (n1 := 256) 0 ⟨q % 2 * 128 + (j 1).val, by omega⟩)
      (fun a => match a with | ⟨0, _⟩ => rfl | ⟨1, _⟩ => rfl)).trans ?_
    refine (shapeCast_dropUnit_apply ![1, 256] (I.cb (c + d * 11)) shapeCasts_S1x1x256_S1x256 _).trans ?_
    refine (R.cb _ (by omega) _).trans ?_
    show D.Cb ((c + d * 11) * 256 + (q % 2 * 128 + (j 1).val)) = _
    rw [show (c + d * 11) * 256 + (q % 2 * 128 + (j 1).val) = d * 2816 + c * 256 + q * 128 + (j 1).val by omega]
  unfold y
  rw [addf_apply, addf_apply, addf_apply, hb, R.tap_at hT c d q 0 _ hc hd hq (by omega) (by omega),
    R.tap_at hT c d q 1 _ hc hd hq (by omega) (by omega), R.tap_at hT c d q 2 _ hc hd hq (by omega) (by omega)]
  unfold Data.y
  rw [Nat.add_right_comm (r * 128) 6, Nat.add_right_comm (r * 128) 7, Nat.add_right_comm (r * 128) 8]

/-- The activation's entry: its row in the interleaved order. -/
def actAt (D : Data) (z : S512x2816.Idx) : EReal := D.act (perm (z 0).val) (z 1).val

theorem actPiece_at (c q r : ℕ) (hc : c < 11) (hq : q < 2) (hr : r < 4) (x : (actPiece I c q r).1.shape.Idx) :
    (actPiece I c q r).2 x = actAt D ((actPiece I c q r).1.emb x) := by
  have h0 : (x 0).val < 128 := (x 0).isLt
  have h1 : (x 1).val < 128 := (x 1).isLt
  have e : ∀ z : S128x128.Idx, shapeCast S128x128
      (truncf .bf16 (mulf (mulf (y I c 0 q r) (logistic (y I c 0 q r))) (y I c 1 q r)) bitsLt_bf16_f32)
      shapeCasts_S128x128_S128x128 z = D.act (r * 128 + perm (z 0).val) (c * 256 + q * 128 + (z 1).val) := fun z => by
    rw [shapeCast_self, truncf_apply, mulf_apply, mulf_apply]
    show y I c 0 q r z * Ideal.logistic (y I c 0 q r z) * y I c 1 q r z = _
    rw [R.y_at hT c 0 q r hc (by omega) hq hr, R.y_at hT c 1 q r hc (by omega) hq hr]
    unfold Data.act
    rw [show 0 * 2816 + c * 256 + q * 128 + (z 1).val = c * 256 + q * 128 + (z 1).val by omega,
      show 1 * 2816 + c * 256 + q * 128 + (z 1).val = c * 256 + q * 128 + (z 1).val + 2816 by omega]
  refine (e x).trans ?_
  show _ = D.act (perm (r * 128 % 385 + 1 * (x 0).val)) ((c * 256 + q * 128) % 2689 + 1 * (x 1).val)
  rw [Nat.mod_eq_of_lt (by omega : r * 128 < 385), Nat.mod_eq_of_lt (by omega : c * 256 + q * 128 < 2689), Nat.one_mul, Nat.one_mul]
  unfold perm
  congr 1
  omega

theorem act_at (z : S512x2816.Idx) : View.canon (actList I 88) z = actAt D z := by
  have h0 : (z 0).val < 512 := (z 0).isLt
  have h1 : (z 1).val < 2816 := (z 1).isLt
  refine canon_stack (fun n => actPiece I (n / 8) (n / 4 % 2) (n % 4)) (actList I) (fun _ => rfl) (actAt D) z 88
    (fun n hn => R.actPiece_at hT (n / 8) (n / 4 % 2) (n % 4) (by omega) (by omega) (by omega))
    ⟨(z 1).val / 128 * 4 + (z 0).val / 128, by omega, ?_⟩
  have e0 : ((z 1).val / 128 * 4 + (z 0).val / 128) % 4 = (z 0).val / 128 := by omega
  have e1 : ((z 1).val / 128 * 4 + (z 0).val / 128) / 8 * 256 + ((z 1).val / 128 * 4 + (z 0).val / 128) / 4 % 2 * 128
    = (z 1).val / 128 * 128 := by omega
  generalize (z 1).val / 128 * 4 + (z 0).val / 128 = n at e0 e1
  have e2 : n % 4 * 128 % 385 = n % 4 * 128 := Nat.mod_eq_of_lt (by omega)
  have e3 : (n / 8 * 256 + n / 4 % 2 * 128) % 2689 = n / 8 * 256 + n / 4 % 2 * 128 := Nat.mod_eq_of_lt (by omega)
  exact (Rect.mem_set_unit (inb := inbAct (n % 4 * 128) (n / 8 * 256 + n / 4 % 2 * 128))).mpr fun a => match a with
    | ⟨0, _⟩ => show n % 4 * 128 % 385 ≤ (z 0).val ∧ (z 0).val < n % 4 * 128 % 385 + 128 by omega
    | ⟨1, _⟩ => show (n / 8 * 256 + n / 4 % 2 * 128) % 2689 ≤ (z 1).val
        ∧ (z 1).val < (n / 8 * 256 + n / 4 % 2 * 128) % 2689 + 128 by omega

/-- The down projection, its rows in the interleaved order. -/
theorem total_at (j : S512x1024.Idx) : total I j = D.down (perm (j 0).val) (j 1).val := by
  unfold total
  rw [shapeCast_self, View.readCov_eq_canon']
  refine matmul_at (M := 512) (K := 2816) (N := 1024) _ _ (fun p f => D.act (perm p) f) D.Wd (fun z => ?_) R.wd j
  refine (R.act_at hT _).trans ?_
  show D.act (perm (0 + 1 * (z 0).val)) (0 + 1 * (z 1).val) = _
  rw [Nat.zero_add, Nat.one_mul, Nat.zero_add, Nat.one_mul]

/-- The product's entry once its rows are in order. -/
def backAt (D : Data) (z : S8x512x128.Idx) : EReal := D.down (z 1).val ((z 0).val * 128 + (z 2).val)

theorem backPiece_at (n : ℕ) (hn : n < 512) (x : (backPiece I n).1.shape.Idx) :
    (backPiece I n).2 x = backAt D ((backPiece I n).1.emb x) := by
  have h0 : (x 0).val < 1 := (x 0).isLt
  have h1 : (x 1).val < 8 := (x 1).isLt
  have h2 : (x 2).val < 128 := (x 2).isLt
  have e : ∀ z : S1x8x128.Idx, shapeCast S1x8x128
      (extractStridedSlice S8x128 ![(n % 64 / 4 * 32 + n % 4 * 8) % 505, (n / 64 * 128) % 897] (total I)
        (slOut (n % 64 / 4 * 32 + n % 4 * 8) (n / 64 * 128))) shapeCasts_S8x128_S1x8x128 z
        = D.down (perm (n % 64 / 4 * 32 + n % 4 * 8 + (z 1).val)) (n / 64 * 128 + (z 2).val) := fun z => by
    have h1 : (z 1).val < 8 := (z 1).isLt
    have h2 : (z 2).val < 128 := (z 2).isLt
    refine (shapeCast_addUnit_apply ![8, 128] _ shapeCasts_S8x128_S1x8x128 z).trans ?_
    refine (extractStridedSlice_apply _ _ (slOut (n % 64 / 4 * 32 + n % 4 * 8) (n / 64 * 128)) (fun a => z a.succ)
      (ix2 (n0 := 512) (n1 := 1024) ⟨n % 64 / 4 * 32 + n % 4 * 8 + (z 1).val, by omega⟩ ⟨n / 64 * 128 + (z 2).val, by omega⟩)
      (fun a => match a with
        | ⟨0, _⟩ => show n % 64 / 4 * 32 + n % 4 * 8 + (z 1).val = (n % 64 / 4 * 32 + n % 4 * 8) % 505 + (z 1).val by omega
        | ⟨1, _⟩ => show n / 64 * 128 + (z 2).val = (n / 64 * 128) % 897 + (z 2).val by omega)).trans ?_
    exact R.total_at hT _
  refine (e x).trans ?_
  show _ = D.down ((n % 64 / 4 * 32 + n % 4) % 484 + 4 * (x 1).val) ((n / 64 % 8 + 1 * (x 0).val) * 128 + (0 + 1 * (x 2).val))
  unfold perm
  congr 1 <;> omega

theorem back_at (z : S8x512x128.Idx) : View.canon (backList I 512) z = backAt D z := by
  have h0 : (z 0).val < 8 := (z 0).isLt
  have h1 : (z 1).val < 512 := (z 1).isLt
  have h2 : (z 2).val < 128 := (z 2).isLt
  refine canon_stack (backPiece I) (backList I) (fun _ => rfl) (backAt D) z 512 (fun n hn => R.backPiece_at hT n hn)
    ⟨(z 0).val * 64 + (z 1).val / 32 * 4 + (z 1).val % 4, by omega, ?_⟩
  have e0 : ((z 0).val * 64 + (z 1).val / 32 * 4 + (z 1).val % 4) / 64 = (z 0).val := by omega
  have e1 : ((z 0).val * 64 + (z 1).val / 32 * 4 + (z 1).val % 4) % 64 / 4 = (z 1).val / 32 := by omega
  have e2 : ((z 0).val * 64 + (z 1).val / 32 * 4 + (z 1).val % 4) % 4 = (z 1).val % 4 := by omega
  generalize (z 0).val * 64 + (z 1).val / 32 * 4 + (z 1).val % 4 = n at e0 e1 e2
  have e3 : (n % 64 / 4 * 32 + n % 4) % 484 = n % 64 / 4 * 32 + n % 4 := Nat.mod_eq_of_lt (by omega)
  refine (LoadRect.mem_set _).mpr fun a => match a with
    | ⟨0, _⟩ => ⟨0, (by show 0 < 1; omega), (by show (z 0).val = n / 64 % 8 + 1 * 0; omega)⟩
    | ⟨1, _⟩ => ⟨(z 1).val / 4 % 8, (by show (z 1).val / 4 % 8 < 8; omega),
        (by show (z 1).val = (n % 64 / 4 * 32 + n % 4) % 484 + 4 * ((z 1).val / 4 % 8); omega)⟩
    | ⟨2, _⟩ => ⟨(z 2).val, h2, (by show (z 2).val = 0 + 1 * (z 2).val; omega)⟩

/-- The output's entry. -/
def outAt (D : Data) (z : S1x512x1024.Idx) : EReal := D.out (z 1).val (z 2).val

theorem outPiece_at (q : ℕ) (hq : q < 8) (x : (outPiece I q).1.shape.Idx) :
    (outPiece I q).2 x = outAt D ((outPiece I q).1.emb x) := by
  have e : ∀ z : S1x512x128.Idx, (shapeCast S1x512x128
      (addf (shapeCast S512x128 (I.xq q) shapeCasts_S1x512x128_S512x128)
        (shapeCast S512x128
          (I.v14.readCov (backList I 512) (Rect.unit (s := S8x512x128) ![q % 8, 0, 0] S1x512x128.size (inbSlab q)).toLoadRect)
          shapeCasts_S1x512x128_S512x128))
      shapeCasts_S512x128_S1x512x128 : FVec Ideal S1x512x128 .f32) z = D.out (z 1).val (q * 128 + (z 2).val) := fun z => by
    refine (shapeCast_addUnit_apply ![512, 128] _ shapeCasts_S512x128_S1x512x128 z).trans ?_
    refine (addf_apply _ _ _).trans (congrArg₂ (· + ·) ?_ ?_)
    · exact (shapeCast_dropUnit_apply ![512, 128] (I.xq q) shapeCasts_S1x512x128_S512x128 _).trans (R.xq q hq _)
    · refine (shapeCast_dropUnit_apply ![512, 128] _ shapeCasts_S1x512x128_S512x128 _).trans ?_
      rw [View.readCov_eq_canon']
      refine (R.back_at hT _).trans ?_
      show D.down (0 + 1 * (z 1).val) ((q % 8 + 1 * 0) * 128 + (0 + 1 * (z 2).val)) = _
      rw [show q % 8 + 1 * 0 = q by omega, Nat.zero_add, Nat.one_mul, Nat.zero_add, Nat.one_mul]
  refine (e x).trans ?_
  show _ = D.out (0 + 1 * (x 1).val) (q * 128 % 897 + 1 * (x 2).val)
  rw [Nat.zero_add, Nat.one_mul, Nat.one_mul, show q * 128 % 897 = q * 128 by omega]

/-- What the point leaves in its output window. -/
theorem out_at (z : S1x512x1024.Idx) : View.canon (outList I 8) z = outAt D z := by
  have h0 : (z 0).val < 1 := (z 0).isLt
  have h1 : (z 1).val < 512 := (z 1).isLt
  have h2 : (z 2).val < 1024 := (z 2).isLt
  refine canon_stack (outPiece I) (outList I) (fun _ => rfl) (outAt D) z 8 (fun n hn => R.outPiece_at hT n hn)
    ⟨(z 2).val / 128, by omega, ?_⟩
  exact (Rect.mem_set_unit (inb := inbOut ((z 2).val / 128 * 128))).mpr fun a => match a with
    | ⟨0, _⟩ => show 0 ≤ (z 0).val ∧ (z 0).val < 0 + 1 by omega
    | ⟨1, _⟩ => show 0 ≤ (z 1).val ∧ (z 1).val < 0 + 512 by omega
    | ⟨2, _⟩ => show (z 2).val / 128 * 128 % 897 ≤ (z 2).val ∧ (z 2).val < (z 2).val / 128 * 128 % 897 + 128 by omega

end Reads

end Cert.Ffn

end
-- ==== Proof.Loads.lean ====
/-
What a grid point's loads are: entry by entry, the entries of its windows' blocks.
-/
module

public import proofs.«01_k».proof.Proof.Pieces
public import proofs.«01_k».proof.Proof.Output
public import Idealize.ShloMosaic.Lib.Pipeline.ValueKit.Tiles

@[expose] public section

set_option maxRecDepth 16384

noncomputable section

namespace Cert.Ffn

open Idealize.ShloMosaic Idealize.ShloMosaic.TcCoe Idealize.ShloMosaic.Tactic Idealize.ShloMosaic.ValueIdx
open Cert.KernelIdeal Cert.KernelIdeal.Gen

/-- A load of a box of a whole buffer, at an index. -/
theorem load_at {S : Shape} {e : EltTy} (a : Memref sig .tc .vmem S e) (h : a.IsWhole) (X : Vec Ideal S e)
    (off size : Fin S.rank → ℕ) (inb) (x : (Rect.unit off size inb).shape.Idx) (i : S.Idx) (hi : ∀ d, (i d : ℕ) = off d + x d) :
    View.readAt (Elt Ideal) a.view (Rect.unit off size inb).toLoadRect (h.unread X) x = X i := by
  rw [View.readAt_eq_ld, Memref.IsWhole.read_unread]
  exact View.ld_unit_apply_of X off size inb x i hi

section

variable (arg2 : Memref sig .tc .vmem S1x512x1024 .f32) (harg2 : arg2.IsWhole) (arg3 : Memref sig .tc .vmem S1x1024 .f32)
    (harg3 : arg3.IsWhole) (arg4 : Memref sig .tc .vmem S1024x5632 .bf16) (harg4 : arg4.IsWhole)
    (arg5 : Memref sig .tc .vmem S22x8x256 .f32) (harg5 : arg5.IsWhole) (arg6 : Memref sig .tc .vmem S22x1x256 .f32)
    (harg6 : arg6.IsWhole) (arg7 : Memref sig .tc .vmem S2816x1024 .bf16) (harg7 : arg7.IsWhole)
    (arg9 : Memref sig .tc .vmem S512x1024 .bf16) (arg10 : Memref sig .tc .vmem S4x520x128 .f32)
    (arg11 : Memref sig .tc .vmem S4x520x128 .f32) (arg13 : Memref sig .tc .vmem S512x2816 .bf16)
    (arg14 : Memref sig .tc .vmem S8x512x128 .f32)
    (x0 : Vec Ideal S1x512x1024 .f32) (x1 : Vec Ideal S1x1024 .f32) (x2 : Vec Ideal S1024x5632 .bf16) (x3 : Vec Ideal S22x8x256 .f32)
    (x4 : Vec Ideal S22x1x256 .f32) (x5 : Vec Ideal S2816x1024 .bf16) (tl : ℕ → ℕ → Vec Ideal S1x1x8x128 .f32)

/-- The windows' blocks are the arrays of `D`. -/
structure Blocks (D : Data) : Prop where
  x : ∀ j, x0 j = D.X (j 1).val (j 2).val
  g : ∀ j, x1 j = D.G (j 1).val
  wu : ∀ j, x2 j = D.W (j 0).val (j 1).val
  cw : ∀ j, (j 1).val < 3 → x3 j = D.Cw (j 1).val ((j 0).val * 256 + (j 2).val)
  cb : ∀ j, x4 j = D.Cb ((j 0).val * 256 + (j 2).val)
  wd : ∀ j, x5 j = D.Wd (j 0).val (j 1).val

/-- Then so are the loads. -/
theorem reads_of_blocks (D : Data) (B : Blocks x0 x1 x2 x3 x4 x5 D) :
    Reads (Model.ins arg2 harg2 arg3 harg3 arg4 harg4 arg5 harg5 arg6 harg6 arg7 harg7 arg9 arg10 arg11 arg13 arg14 x0 x1 x2 x3 x4 x5 tl) D where
  x j := (load_at arg2 harg2 x0 _ _ _ j j fun d => by match d with
    | ⟨0, _⟩ => exact (Nat.zero_add _).symm
    | ⟨1, _⟩ => exact (Nat.zero_add _).symm
    | ⟨2, _⟩ => exact (Nat.zero_add _).symm).trans (B.x j)
  g j := (load_at arg3 harg3 x1 _ _ _ j j fun d => by match d with
    | ⟨0, _⟩ => exact (Nat.zero_add _).symm
    | ⟨1, _⟩ => exact (Nat.zero_add _).symm).trans (B.g j)
  wu k hk j := by
    have h0 : (j 0).val < 1024 := (j 0).isLt
    have h1 : (j 1).val < 256 := (j 1).isLt
    exact (load_at arg4 harg4 x2 _ _ _ j (ix2 (n0 := 1024) (n1 := 5632) ⟨(j 0).val, h0⟩ ⟨k + (j 1).val, by omega⟩) fun d => by match d with
      | ⟨0, _⟩ => exact (Nat.zero_add _).symm
      | ⟨1, _⟩ => show k + (j 1).val = k % 5377 + (j 1).val; omega).trans (B.wu _)
  cw i t q hi ht hq j := by
    have h0 : (j 0).val < 1 := (j 0).isLt
    have h1 : (j 1).val < 1 := (j 1).isLt
    have h2 : (j 2).val < 128 := (j 2).isLt
    refine (load_at arg5 harg5 x3 _ _ _ j (ix3 (n0 := 22) (n1 := 8) (n2 := 256) ⟨i, hi⟩ ⟨t, by omega⟩ ⟨q * 128 + (j 2).val, by omega⟩) fun d => by match d with
      | ⟨0, _⟩ => show i = i % 22 + (j 0).val; omega
      | ⟨1, _⟩ => show t = t % 8 + (j 1).val; omega
      | ⟨2, _⟩ => show q * 128 + (j 2).val = q % 2 * 128 + (j 2).val; omega).trans ((B.cw _ ht).trans ?_)
    show D.Cw t (i * 256 + (q * 128 + (j 2).val)) = _
    rw [← Nat.add_assoc]
  cb i hi j := by
    have h0 : (j 0).val < 1 := (j 0).isLt
    have h1 : (j 1).val < 1 := (j 1).isLt
    have h2 : (j 2).val < 256 := (j 2).isLt
    exact (load_at arg6 harg6 x4 _ _ _ j (ix3 (n0 := 22) (n1 := 1) (n2 := 256) ⟨i, hi⟩ ⟨0, by omega⟩ ⟨(j 2).val, h2⟩) fun d => by match d with
      | ⟨0, _⟩ => show i = i % 22 + (j 0).val; omega
      | ⟨1, _⟩ => show 0 = 0 + (j 1).val; omega
      | ⟨2, _⟩ => exact (Nat.zero_add _).symm).trans (B.cb _)
  wd j := (load_at arg7 harg7 x5 _ _ _ j j fun d => by match d with
    | ⟨0, _⟩ => exact (Nat.zero_add _).symm
    | ⟨1, _⟩ => exact (Nat.zero_add _).symm).trans (B.wd j)
  xq q hq j := by
    have h0 : (j 0).val < 1 := (j 0).isLt
    have h1 : (j 1).val < 512 := (j 1).isLt
    have h2 : (j 2).val < 128 := (j 2).isLt
    exact (load_at arg2 harg2 x0 _ _ _ j (ix3 (n0 := 1) (n1 := 512) (n2 := 1024) ⟨0, by omega⟩ ⟨(j 1).val, h1⟩ ⟨q * 128 + (j 2).val, by omega⟩) fun d => by match d with
      | ⟨0, _⟩ => show 0 = 0 + (j 0).val; omega
      | ⟨1, _⟩ => exact (Nat.zero_add _).symm
      | ⟨2, _⟩ => show q * 128 + (j 2).val = q * 128 % 897 + (j 2).val; omega).trans (B.x _)

end

/-- The tail rows a later point finds are those carried. -/
theorem tlB_at (arg12 : Memref sig .tc .vmem S11x4x8x128 .f32) (harg12 : arg12.IsWhole) (xs3 : Vec Ideal S11x4x8x128 .f32) (D : Data)
    (hx : ∀ j : S11x4x8x128.Idx, xs3 j = D.T (j 2).val (col (j 0).val (j 1).val + (j 3).val)) (c s : ℕ) (hc : c < 11) (hs : s < 4)
    (j : S1x1x8x128.Idx) : Model.tlB arg12 harg12 xs3 c s j = D.T (j 2).val (col c s + (j 3).val) := by
  have h0 : (j 0).val < 1 := (j 0).isLt
  have h1 : (j 1).val < 1 := (j 1).isLt
  have h2 : (j 2).val < 8 := (j 2).isLt
  have h3 : (j 3).val < 128 := (j 3).isLt
  exact (load_at arg12 harg12 xs3 _ _ _ j (ix4 (n0 := 11) (n1 := 4) (n2 := 8) (n3 := 128) ⟨c, hc⟩ ⟨s, hs⟩ ⟨(j 2).val, h2⟩ ⟨(j 3).val, h3⟩) fun d => by match d with
    | ⟨0, _⟩ => show c = c % 11 + (j 0).val; omega
    | ⟨1, _⟩ => show s = s % 4 + (j 1).val; omega
    | ⟨2, _⟩ => exact (Nat.zero_add _).symm
    | ⟨3, _⟩ => exact (Nat.zero_add _).symm).trans (hx _)

/-- The tail rows the first point of a row of tiles finds are zero. -/
theorem tlA_at (v : View sig .tc .vmem S11x4x8x128 .f32) (I : Model.Ins Ideal) (c s : ℕ) (hc : c < 11) (hs : s < 4)
    (j : S1x1x8x128.Idx) : Model.tlA v I c s j = 0 := by
  have h0 : (j 0).val < 1 := (j 0).isLt
  have h1 : (j 1).val < 1 := (j 1).isLt
  unfold Model.tlA
  rw [View.readCov_eq_canon']
  refine (canon_stack_keep (fun n => Model.tailPiece I (n / 4) (n % 4)) (Model.tailList I _) (fun n => rfl) _ _ fun n hn => ?_).trans ?_
  · intro hm
    have hm' := (Rect.mem_set_unit (inb := Model.inbTail (n / 4) (n % 4))).mp hm
    have m0 : n / 4 % 11 ≤ c % 11 + 1 * (j 0).val ∧ c % 11 + 1 * (j 0).val < n / 4 % 11 + 1 := hm' 0
    have m1 : n % 4 % 4 ≤ s % 4 + 1 * (j 1).val ∧ s % 4 + 1 * (j 1).val < n % 4 % 4 + 1 := hm' 1
    omega
  · have hz : (![0, 0, 0, 0] : Fin S11x4x8x128.rank → ℕ) = 0 := by
      funext a
      match a with
      | ⟨0, _⟩ => rfl
      | ⟨1, _⟩ => rfl
      | ⟨2, _⟩ => rfl
      | ⟨3, _⟩ => rfl
    refine (congrFun (View.canon_cons_unit_zero (Val := Elt Ideal) (e := .f32) hz inb_S11x4x8x128_S11x4x8x128_0_0_0_0
      (k0_pay2 (F := Ideal)) []) _).trans ?_
    exact Ideal.ofBits_zero_f32

end Cert.Ffn

end
-- ==== Proof.Host.lean ====
/-
What the kernel's caller hands to the call: the gain as a row, the two projections rounded (no rounding over the
extended reals), the convolution's taps and bias laid out by column block. Each entry is an entry of an argument.
-/
module

public import proofs.«01_k».proof.Proof.Spec
public import proofs.«01_k».proof.Proof.Gen.KernelIdeal.Frame
public import Idealize.ShloMosaic.Lib.KernelVsHost

@[expose] public section

set_option maxRecDepth 16384

noncomputable section

namespace Cert.Ffn

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ) (c : Dev nD)

/-- The arguments of the call, as the arrays of the specification. -/
def argsOf : Args where
  x := m ((c : Thread nD τ).loc main_arg0)
  g := m ((c : Thread nD τ).loc main_arg1)
  wu := m ((c : Thread nD τ).loc main_arg2)
  cw := m ((c : Thread nD τ).loc main_arg3)
  cb := m ((c : Thread nD τ).loc main_arg4)
  wd := m ((c : Thread nD τ).loc main_arg5)

theorem V_x (j : S8x8192x1024.Idx) : V m c main_arg0 j = at3 (argsOf m c).x (j 0).val (j 1).val (j 2).val := by
  rw [V_main_arg0]; exact at3_of _ j

theorem V_g (j : S1x1024.Idx) : V m c main_v0 j = at1 (argsOf m c).g (j 1).val := by
  have e : V m c main_v0 = shapeCast S1x1024 (m ((c : Thread nD τ).loc main_arg1)) shapeCasts_S1024_S1x1024 := by
    show StableHlo.after _ _ (Proc.devRef .tc main_v0) = _
    simp only [hostOps0, hostOps0_1, hostOps0_2, List.flatten_cons, List.flatten_nil, List.append_nil, List.cons_append, List.nil_append]
    after_results
    rfl
  rw [e]
  exact (shapeCast_addUnit_apply ![1024] (m ((c : Thread nD τ).loc main_arg1)) _ j).trans (at1_of _ _)

theorem V_wu (j : S1024x5632.Idx) : V m c main_v1 j = at2 (argsOf m c).wu (j 0).val (j 1).val := by
  have e : @Eq (FVec Ideal S1024x5632 .bf16) (V m c main_v1) <| truncf .bf16 (m ((c : Thread nD τ).loc main_arg2) : FVec Ideal S1024x5632 .f32) bitsLt_bf16_f32 := by
    show StableHlo.after _ _ (Proc.devRef .tc main_v1) = _
    simp only [hostOps0, hostOps0_1, hostOps0_2, List.flatten_cons, List.flatten_nil, List.append_nil, List.cons_append, List.nil_append]
    after_results
  rw [e]
  exact at2_of (argsOf m c).wu j

theorem V_wd (j : S2816x1024.Idx) : V m c main_v8 j = at2 (argsOf m c).wd (j 0).val (j 1).val := by
  have e : @Eq (FVec Ideal S2816x1024 .bf16) (V m c main_v8) <| truncf .bf16 (m ((c : Thread nD τ).loc main_arg5) : FVec Ideal S2816x1024 .f32) bitsLt_bf16_f32 := by
    show StableHlo.after _ _ (Proc.devRef .tc main_v8) = _
    simp only [hostOps0, hostOps0_1, hostOps0_2, List.flatten_cons, List.flatten_nil, List.append_nil, List.cons_append, List.nil_append]
    after_results
  rw [e]
  exact at2_of (argsOf m c).wd j

theorem V_cb (j : S22x1x256.Idx) : V m c main_v7 j = at1 (argsOf m c).cb ((j 0).val * 256 + (j 2).val) := by
  have e : V m c main_v7 = transpose S22x1x256 [1, 0, 2] (shapeCast S1x22x256 (shapeCast S1x5632 (m ((c : Thread nD τ).loc main_arg4))
      shapeCasts_S5632_S1x5632) shapeCasts_S1x5632_S1x22x256) transposes_S1x22x256_S22x1x256_1_0_2 := by
    show StableHlo.after _ _ (Proc.devRef .tc main_v7) = _
    simp only [hostOps0, hostOps0_1, hostOps0_2, List.flatten_cons, List.flatten_nil, List.append_nil, List.cons_append, List.nil_append]
    after_results
    rfl
  have h0 : (j 0).val < 22 := (j 0).isLt
  have h1 : (j 1).val < 1 := (j 1).isLt
  have h2 : (j 2).val < 256 := (j 2).isLt
  rw [e]
  refine (transpose_apply [1, 0, 2] _ _ j (ix3 (n0 := 1) (n1 := 22) (n2 := 256) ⟨0, by omega⟩ ⟨(j 0).val, h0⟩ ⟨(j 2).val, h2⟩) ?_).trans ?_
  · intro b
    match b with
    | ⟨0, _⟩ => rfl
    | ⟨1, _⟩ => show 0 = (j 1).val; omega
    | ⟨2, _⟩ => rfl
  refine (shapeCast_apply _ _ _ (ix2 (n0 := 1) (n1 := 5632) ⟨0, by omega⟩ ⟨(j 0).val * 256 + (j 2).val, by omega⟩) ?_).trans ?_
  · rw [Shape.rowMajor_val_two, Shape.rowMajor_val_three]
    show 0 * 5632 + ((j 0).val * 256 + (j 2).val) = (0 * 22 + (j 0).val) * 256 + (j 2).val
    omega
  exact (shapeCast_addUnit_apply ![5632] (m ((c : Thread nD τ).loc main_arg4)) _ _).trans (at1_of _ _)

theorem V_cw (j : S22x8x256.Idx) (ht : (j 1).val < 3) :
    V m c main_v4 j = at2 (argsOf m c).cw (j 1).val ((j 0).val * 256 + (j 2).val) := by
  have e : V m c main_v4 = transpose S22x8x256 [1, 0, 2] (shapeCast S8x22x256 (pad S8x5632 ![0, 0] ![5, 0] ![0, 0]
      (m ((c : Thread nD τ).loc main_arg3)) (sitofp .f32 (constantI S_ 32 0#32) : FVec Ideal S_ .f32) pads_S3x5632_S8x5632_050_000 h_S_)
      shapeCasts_S8x5632_S8x22x256) transposes_S8x22x256_S22x8x256_1_0_2 := by
    show StableHlo.after _ _ (Proc.devRef .tc main_v4) = _
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
    rfl
  have h0 : (j 0).val < 22 := (j 0).isLt
  have h2 : (j 2).val < 256 := (j 2).isLt
  rw [e]
  refine (transpose_apply [1, 0, 2] _ _ j (ix3 (n0 := 8) (n1 := 22) (n2 := 256) ⟨(j 1).val, by omega⟩ ⟨(j 0).val, h0⟩ ⟨(j 2).val, h2⟩) ?_).trans ?_
  · intro b
    match b with
    | ⟨0, _⟩ => rfl
    | ⟨1, _⟩ => rfl
    | ⟨2, _⟩ => rfl
  refine (shapeCast_apply _ _ _ (ix2 (n0 := 8) (n1 := 5632) ⟨(j 1).val, by omega⟩ ⟨(j 0).val * 256 + (j 2).val, by omega⟩) ?_).trans ?_
  · rw [Shape.rowMajor_val_two, Shape.rowMajor_val_three]
    show (j 1).val * 5632 + ((j 0).val * 256 + (j 2).val) = ((j 1).val * 22 + (j 0).val) * 256 + (j 2).val
    omega
  refine (pad_apply_of_inside _ _ _ _ _ _ _ _ (ix2 (n0 := 3) (n1 := 5632) ⟨(j 1).val, ht⟩ ⟨(j 0).val * 256 + (j 2).val, by omega⟩) ?_).trans (at2_of (argsOf m c).cw _)
  intro a
  match a with
  | ⟨0, _⟩ => show (j 1).val = 0 + (j 1).val * (0 + 1); omega
  | ⟨1, _⟩ => show (j 0).val * 256 + (j 2).val = 0 + ((j 0).val * 256 + (j 2).val) * (0 + 1); omega

end Cert.Ffn

end
-- ==== Proof.Points.lean ====
/-
What every grid point leaves: the output block is a tile of the specification, the carried rows are the last eight
rows of the tile's up projection.
-/
module

public import proofs.«01_k».proof.Proof.Loads
public import proofs.«01_k».proof.Proof.Host

@[expose] public section

set_option maxRecDepth 16384

noncomputable section

namespace Cert.Ffn

open Idealize.ShloMosaic Idealize.ShloMosaic.TcCoe Idealize.ShloMosaic.Tactic Idealize.ShloMosaic.ValueIdx
open Idealize.SL.Sem
open Cert.KernelIdeal Cert.KernelIdeal.Gen

/-! ## Tiles of the specification -/

/-- What the point of sequence `b` and tile `s` reads. -/
def tile (A : Args) (b s : ℕ) : Data where
  X p k := at3 A.x b (s * 512 + p) k
  G k := at1 A.g k
  W k f := at2 A.wu k f
  Cw t f := at2 A.cw t f
  Cb f := at1 A.cb f
  Wd f n := at2 A.wd f n
  T p f := if s = 0 then 0 else A.u b (s * 512 - 8 + p) f

section

variable (A : Args) (b s : ℕ)

theorem tile_u (p f : ℕ) : (tile A b s).u p f = A.u b (s * 512 + p) f := rfl

/-- Row `p` of a tile's rows is row `s * 512 + p - 8` of the sequence, zero before it. -/
theorem tile_up (p f : ℕ) : (tile A b s).up p f = if 8 ≤ s * 512 + p then A.u b (s * 512 + p - 8) f else 0 := by
  unfold Data.up
  rw [tile_u]
  show (if p < 8 then (if s = 0 then 0 else A.u b (s * 512 - 8 + p) f) else _) = _
  by_cases hp : p < 8
  · by_cases hs : s = 0
    · rw [if_pos hp, if_pos hs, if_neg (by omega)]
    · rw [if_pos hp, if_neg hs, if_pos (by omega), show s * 512 - 8 + p = s * 512 + p - 8 by omega]
  · rw [if_neg hp, if_pos (by omega), show s * 512 + (p - 8) = s * 512 + p - 8 by omega]

theorem tile_y (p f : ℕ) : (tile A b s).y p f = A.y b (s * 512 + p) f := by
  have back : ∀ d, d ≤ 2 → (tile A b s).up (p + (8 - d)) f = A.back d b (s * 512 + p) f := fun d hd => by
    rw [tile_up]
    unfold Args.back
    by_cases h : d ≤ s * 512 + p
    · rw [if_pos h, if_pos (by omega), show s * 512 + (p + (8 - d)) - 8 = s * 512 + p - d by omega]
    · rw [if_neg h, if_neg (by omega)]
  have h0 : A.back 0 b (s * 512 + p) f = A.u b (s * 512 + p) f := if_pos (Nat.zero_le _)
  unfold Data.y Args.y
  rw [back 2 (by omega), back 1 (by omega), back 0 (by omega), h0]
  rfl

theorem tile_out (p n : ℕ) : (tile A b s).out p n = A.out b (s * 512 + p) n := by
  unfold Data.out Args.out Data.down Data.act Args.act
  simp only [tile_y]
  rfl

end

/-! ## The windows' blocks -/

variable (m : (ℓ : Loc nD τ sig) → Buf (Elt Ideal) ℓ) (c : Dev nD)

/-- The input's window moves along the sequence, then to the next sequence; the other windows hold whole arrays. -/
theorem index_x : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)

theorem blocks (t : Fin cfg0.N) :
    Blocks (iblk m c 0 t) (iblk m c 1 t) (iblk m c 2 t) (iblk m c 3 t) (iblk m c 4 t) (iblk m c 5 t)
      (tile (argsOf m c) (t.val / 16) (t.val % 16)) where
  x j := by
    obtain ⟨e0, e1, e2⟩ := index_x t
    have h0 : (j 0).val < 1 := (j 0).isLt
    refine (V_x m c _).trans ?_
    show at3 _ (win0_0.index t (0 : Fin 3) * 1 + 1 * (j 0).val) (win0_0.index t (1 : Fin 3) * 512 + 1 * (j 1).val)
      (win0_0.index t (2 : Fin 3) * 1024 + 1 * (j 2).val) = at3 _ (t.val / 16) (t.val % 16 * 512 + (j 1).val) (j 2).val
    rw [e0, e1, e2]
    congr 1 <;> omega
  g j := by
    refine (V_g m c _).trans ?_
    show at1 _ (0 * 1024 + 1 * (j 1).val) = at1 _ (j 1).val
    congr 1; omega
  wu j := by
    refine (V_wu m c _).trans ?_
    show at2 _ (0 * 1024 + 1 * (j 0).val) (0 * 5632 + 1 * (j 1).val) = at2 _ (j 0).val (j 1).val
    congr 1 <;> omega
  cw j hj := by
    refine (V_cw m c _ (show 0 * 8 + 1 * (j 1).val < 3 by omega)).trans ?_
    show at2 _ (0 * 8 + 1 * (j 1).val) ((0 * 22 + 1 * (j 0).val) * 256 + (0 * 256 + 1 * (j 2).val)) = at2 _ (j 1).val ((j 0).val * 256 + (j 2).val)
    congr 1 <;> omega
  cb j := by
    refine (V_cb m c _).trans ?_
    show at1 _ ((0 * 22 + 1 * (j 0).val) * 256 + (0 * 256 + 1 * (j 2).val)) = at1 _ ((j 0).val * 256 + (j 2).val)
    congr 1; omega
  wd j := by
    refine (V_wd m c _).trans ?_
    show at2 _ (0 * 2816 + 1 * (j 0).val) (0 * 1024 + 1 * (j 1).val) = at2 _ (j 0).val (j 1).val
    congr 1 <;> omega

/-! ## What a point leaves -/

section

variable (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x5632 .bf16) (harg4 : arg4.IsWhole)
    (arg5 : Memref sig .tc .vmem S22x8x256 .f32) (harg5 : arg5.IsWhole)
    (arg6 : Memref sig .tc .vmem S22x1x256 .f32) (harg6 : arg6.IsWhole)
    (arg7 : Memref sig .tc .vmem S2816x1024 .bf16) (harg7 : arg7.IsWhole)
    (arg8 : Memref sig .tc .vmem S1x512x1024 .f32) (harg8 : arg8.IsWhole)
    (arg9 : Memref sig .tc .vmem S512x1024 .bf16) (harg9 : arg9.IsWhole)
    (arg10 : Memref sig .tc .vmem S4x520x128 .f32) (harg10 : arg10.IsWhole)
    (arg11 : Memref sig .tc .vmem S4x520x128 .f32) (harg11 : arg11.IsWhole)
    (arg12 : Memref sig .tc .vmem S11x4x8x128 .f32) (harg12 : arg12.IsWhole)
    (arg13 : Memref sig .tc .vmem S512x2816 .bf16) (harg13 : arg13.IsWhole)
    (arg14 : Memref sig .tc .vmem S8x512x128 .f32) (harg14 : arg14.IsWhole)
    (x0 : Vec Ideal S1x512x1024 .f32) (x1 : Vec Ideal S1x1024 .f32) (x2 : Vec Ideal S1024x5632 .bf16) (x3 : Vec Ideal S22x8x256 .f32)
    (x4 : Vec Ideal S22x1x256 .f32) (x5 : Vec Ideal S2816x1024 .bf16) (xs3 : Vec Ideal S11x4x8x128 .f32) (D : Data)
    (B : Blocks x0 x1 x2 x3 x4 x5 D)
include B

theorem carried_A (hc0 : cond0_0 i) (y : S11x4x8x128.Idx) :
    sout0_A_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 y = Reads.tailAt D y := by
  unfold sout0_A_3
  rw [View.read_writes_junk_eq_canon, Model.tail_A]
  exact Reads.tailList_at (reads_of_blocks _ _ _ _ _ _ _ _ _ _ _ _ _ _ _ _ _ _ _ _ _ _ _ _ _ B) _ y

theorem carried_B (hc0 : ¬cond0_0 i) (y : S11x4x8x128.Idx) :
    sout0_B_3 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs3 y = Reads.tailAt D y := by
  unfold sout0_B_3
  rw [View.read_writes_junk_eq_canon, Model.tail_B]
  exact Reads.tailList_at (reads_of_blocks _ _ _ _ _ _ _ _ _ _ _ _ _ _ _ _ _ _ _ _ _ _ _ _ _ B) _ y

theorem output_A (hT : ∀ p f, D.T p f = 0) (hc0 : cond0_0 i) (z : S1x512x1024.Idx) :
    out0_A_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 z = D.out (z 1).val (z 2).val := by
  unfold out0_A_6
  rw [View.read_writes_junk_eq_canon, Model.out_A]
  exact Reads.out_at (reads_of_blocks _ _ _ _ _ _ _ _ _ _ _ _ _ _ _ _ _ _ _ _ _ _ _ _ _ B)
    (fun k s hk hs j => (tlA_at _ _ k s hk hs j).trans (hT _ _).symm) z

theorem output_B (hT : ∀ j : S11x4x8x128.Idx, xs3 j = D.T (j 2).val (col (j 0).val (j 1).val + (j 3).val)) (hc0 : ¬cond0_0 i)
    (z : S1x512x1024.Idx) : out0_B_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs3 z = D.out (z 1).val (z 2).val := by
  unfold out0_B_6
  rw [View.read_writes_junk_eq_canon, Model.out_B]
  exact Reads.out_at (reads_of_blocks _ _ _ _ _ _ _ _ _ _ _ _ _ _ _ _ _ _ _ _ _ _ _ _ _ B)
    (fun k s hk hs j => tlB_at _ _ _ D hT k s hk hs j) z

end

/-- The carried rows after position `n`. -/
theorem carried (n : ℕ) (h : n < cfg0.N) (y : S11x4x8x128.Idx) :
    (outsAt0 m c n h).2 y = Reads.tailAt (tile (argsOf m c) (n / 16) (n % 16)) y := by
  by_cases h0 : n % 16 = 0
  · have e := congrArg Prod.snd (outsAt0_A m c ⟨n, h⟩ h0)
    dsimp only at e
    refine (congrFun e y).trans ?_
    exact (carried_A _ _ _ _ _ _ _ _ _ _ _ _ _ _ _ _ _ _ _ _ _ _ _ _ _ _ _ _ _ _ _ _ _ _ _ (blocks m c ⟨n, h⟩) _ y)
  · have e := congrArg Prod.snd (outsAt0_B m c ⟨n, h⟩ h0)
    generalize (outsAt0 m c (Fin.val ⟨n, h⟩ - 1) _).2 = xs3 at e
    dsimp only at e
    refine (congrFun e y).trans ?_
    exact carried_B _ _ _ _ _ _ _ _ _ _ _ _ _ _ _ _ _ _ _ _ _ _ _ _ _ _ _ _ _ _ _ _ _ _ xs3 _ (blocks m c ⟨n, h⟩) _ y

/-- The output block after position `n`. -/
theorem output (n : ℕ) (h : n < cfg0.N) (z : S1x512x1024.Idx) :
    (outsAt0 m c n h).1 z = (argsOf m c).out (n / 16) (n % 16 * 512 + (z 1).val) (z 2).val := by
  refine Eq.trans ?_ (tile_out _ _ _ _ _)
  by_cases h0 : n % 16 = 0
  · have e := congrArg Prod.fst (outsAt0_A m c ⟨n, h⟩ h0)
    dsimp only at e
    refine (congrFun e z).trans ?_
    exact (output_A _ _ _ _ _ _ _ _ _ _ _ _ _ _ _ _ _ _ _ _ _ _ _ _ _ _ _ _ _ _ _ _ _ _ _ (blocks m c ⟨n, h⟩) (fun p f => if_pos h0) _ z)
  · have e := congrArg Prod.fst (outsAt0_B m c ⟨n, h⟩ h0)
    have hT := carried m c (n - 1) (Nat.lt_of_le_of_lt (Nat.sub_le _ _) h)
    generalize (outsAt0 m c (Fin.val ⟨n, h⟩ - 1) _).2 = xs3 at e hT
    dsimp only at e
    refine (congrFun e z).trans ?_
    refine output_B _ _ _ _ _ _ _ _ _ _ _ _ _ _ _ _ _ _ _ _ _ _ _ _ _ _ _ _ _ _ _ _ _ _ xs3 _ (blocks m c ⟨n, h⟩) (fun y => ?_) _ z
    refine (hT y).trans ?_
    show (argsOf m c).u ((n - 1) / 16) ((n - 1) % 16 * 512 + (504 + (y 2).val)) _ =
      if n % 16 = 0 then 0 else (argsOf m c).u (n / 16) (n % 16 * 512 - 8 + (y 2).val) _
    rw [if_neg h0, show (n - 1) / 16 = n / 16 by omega, show (n - 1) % 16 * 512 + (504 + (y 2).val) = n % 16 * 512 - 8 + (y 2).val by omega]

end Cert.Ffn

end
-- ==== Proof.Value.lean ====
/-
The kernel's result and the reference's, both the specification at every index.
-/
module

public import proofs.«01_k».proof.Proof.Points
public import proofs.«01_k».proof.Proof.Gen.KernelIdeal.Value

@[expose] public section

set_option maxRecDepth 16384

noncomputable section

namespace Cert.Ffn

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The kernel's result array. -/
theorem kernel_out (i : S8x8192x1024.Idx) :
    G6 m c i = (argsOf m c).out (i 0).val (i 1).val (i 2).val := by
  have h0 : (i 0).val < 8 := (i 0).isLt
  have h1 : (i 1).val < 8192 := (i 1).isLt
  have h2 : (i 2).val < 1024 := (i 2).isLt
  have hp : pt6Of i = 16 * (i 0).val + (i 1).val / 512 := by
    show 16 * ((i 0).val / 1 - 0) + 1 * ((i 1).val / 512 - 0) + 1 * ((i 2).val / 1024 - 0) = _
    omega
  have hN : pt6Of i < cfg0.N := lt_of_lt_of_eq (by omega) N_0.symm
  unfold G6
  rw [dif_pos hN]
  refine (congrFun (congrArg Prod.fst (outsAt0_sweep m c (pt6Of i) hN).symm) (loc6Of i)).trans ((output m c _ hN _).trans ?_)
  show (argsOf m c).out (pt6Of i / 16) (pt6Of i % 16 * 512 + (i 1).val % 512) ((i 2).val % 1024) = _
  rw [hp, show (16 * (i 0).val + (i 1).val / 512) / 16 = (i 0).val by omega,
    show (16 * (i 0).val + (i 1).val / 512) % 16 * 512 + (i 1).val % 512 = (i 1).val by omega, Nat.mod_eq_of_lt h2]

end Cert.Ffn

end
-- ==== Proof.BiasPick.lean ====
/-
What a point of the band bias stores: of the bucket at an index, the entry of the table's column, found by trying the 32
buckets in turn.
-/
module

public import Idealize.ShloMosaic.PureOps.Ideal.Laws
public import Idealize.ShloMosaic.Lib.ValueIdx
public import Idealize.ShloMosaic.Lib.Pipeline.ValueKit.Tiles
public import proofs.«01_k».proof.Proof.Gen.BiasIdeal.Frame

@[expose] public section

set_option maxRecDepth 16384

noncomputable section

namespace Cert.Band

open Idealize.ShloMosaic Idealize.ShloMosaic.TcCoe Idealize.ShloMosaic.Tactic Idealize.ShloMosaic.ValueIdx
open Cert.BiasIdeal Cert.BiasIdeal.Gen

/-- `T k` for the word of `k` below `n`, the last found of them, and `z` for any other word. -/
def pick {α : Type} (T : ℕ → α) (z : α) (b : BitVec 32) : ℕ → α
  | 0 => z
  | n + 1 => Scalar.select (IntOp.cmpi .eq b (BitVec.ofNat 32 n)) (T n) (pick T z b n)

section

variable {α : Type} (T : ℕ → α) (z : α)

theorem pick_step_eq (b : BitVec 32) (n : ℕ) (h : b = BitVec.ofNat 32 n) : pick T z b (n + 1) = T n := by
  show Scalar.select (BitVec.ofBool (b == BitVec.ofNat 32 n)) (T n) _ = T n
  rw [beq_iff_eq.mpr h]
  rfl

theorem pick_step_ne (b : BitVec 32) (n : ℕ) (h : b ≠ BitVec.ofNat 32 n) : pick T z b (n + 1) = pick T z b n := by
  show Scalar.select (BitVec.ofBool (b == BitVec.ofNat 32 n)) (T n) _ = _
  rw [beq_eq_false_iff_ne.mpr h]
  rfl

theorem pick_miss (b : BitVec 32) : ∀ n : ℕ, (∀ k < n, b ≠ BitVec.ofNat 32 k) → pick T z b n = z
  | 0, _ => rfl
  | n + 1, h => (pick_step_ne T z b n (h n n.lt_succ_self)).trans (pick_miss b n fun k hk => h k (hk.trans n.lt_succ_self))

theorem pick_hit (k : ℕ) : ∀ n : ℕ, k < n → n ≤ 2 ^ 32 → pick T z (BitVec.ofNat 32 k) n = T k
  | 0, h, _ => absurd h (Nat.not_lt_zero _)
  | n + 1, h, hn => by
    by_cases e : k = n
    · rw [e]
      exact pick_step_eq T z _ n rfl
    · refine (pick_step_ne T z _ n fun q => e ?_).trans (pick_hit k n (by omega) (by omega))
      have q' := congrArg BitVec.toNat q
      rw [BitVec.toNat_ofNat, BitVec.toNat_ofNat, Nat.mod_eq_of_lt (by omega), Nat.mod_eq_of_lt (by omega)] at q'
      exact q'

end

/-- The index `(k, h)` of the table, `h` the point's head. -/
def cell (i : grid0.Coords) (k : ℕ) (hk : k < 32) : S32x8.Idx :=
  ix2 (n0 := 32) (n1 := 8) ⟨k, hk⟩ ⟨(i 0).val, (i 0).isLt⟩

variable (c : Dev nD) (i : grid0.Coords) (arg1 : Memref sig .tc .smem S32x8 .f32) (harg1 : arg1.IsWhole)
  (arg2 : Memref sig .tc .vmem S128x256 .i32) (harg2 : arg2.IsWhole) (arg3 : Memref sig .tc .vmem S1x128x256 .f32)
  (harg3 : arg3.IsWhole) (x0 : Vec Ideal S32x8 .f32) (x1 : Vec Ideal S128x256 .i32)

/-- One entry is one element. -/
theorem one : 0 < S1x1.numel := by decide

/-- The load of the one entry of the table at an offset. -/
def entry (off : Fin S32x8.rank → ℕ) (inb : ∀ d, off d + S1x1.size d ≤ S32x8.size d) : Elt Ideal .f32 :=
  View.readAt (Elt Ideal) arg1.view (Rect.unit off S1x1.size inb).toLoadRect (harg1.unread x0) (Shape.Idx.first one)

theorem entry_at (off : Fin S32x8.rank → ℕ) (inb : ∀ d, off d + S1x1.size d ≤ S32x8.size d) (k : ℕ) (hk : k < 32)
    (h0 : off 0 = k) (h1 : off 1 = (i 0).val) : entry arg1 harg1 x0 off inb = x0 (cell i k hk) := by
  unfold entry
  rw [View.readAt_eq_ld, Memref.IsWhole.read_unread]
  refine View.ld_unit_apply_of x0 off S1x1.size inb (Shape.Idx.first one) _ fun d => ?_
  match d with
  | ⟨0, _⟩ => exact h0.symm
  | ⟨1, _⟩ => exact h1.symm

/-- The entries a point loads, by bucket. -/
def table : ℕ → Elt Ideal .f32
  | 0 => entry arg1 harg1 x0 (k0_off1 i) (k0_off1_inb i)
  | 1 => entry arg1 harg1 x0 (k0_off2 i) (k0_off2_inb i)
  | 2 => entry arg1 harg1 x0 (k0_off3 i) (k0_off3_inb i)
  | 3 => entry arg1 harg1 x0 (k0_off4 i) (k0_off4_inb i)
  | 4 => entry arg1 harg1 x0 (k0_off5 i) (k0_off5_inb i)
  | 5 => entry arg1 harg1 x0 (k0_off6 i) (k0_off6_inb i)
  | 6 => entry arg1 harg1 x0 (k0_off7 i) (k0_off7_inb i)
  | 7 => entry arg1 harg1 x0 (k0_off8 i) (k0_off8_inb i)
  | 8 => entry arg1 harg1 x0 (k0_off9 i) (k0_off9_inb i)
  | 9 => entry arg1 harg1 x0 (k0_off10 i) (k0_off10_inb i)
  | 10 => entry arg1 harg1 x0 (k0_off11 i) (k0_off11_inb i)
  | 11 => entry arg1 harg1 x0 (k0_off12 i) (k0_off12_inb i)
  | 12 => entry arg1 harg1 x0 (k0_off13 i) (k0_off13_inb i)
  | 13 => entry arg1 harg1 x0 (k0_off14 i) (k0_off14_inb i)
  | 14 => entry arg1 harg1 x0 (k0_off15 i) (k0_off15_inb i)
  | 15 => entry arg1 harg1 x0 (k0_off16 i) (k0_off16_inb i)
  | 16 => entry arg1 harg1 x0 (k0_off17 i) (k0_off17_inb i)
  | 17 => entry arg1 harg1 x0 (k0_off18 i) (k0_off18_inb i)
  | 18 => entry arg1 harg1 x0 (k0_off19 i) (k0_off19_inb i)
  | 19 => entry arg1 harg1 x0 (k0_off20 i) (k0_off20_inb i)
  | 20 => entry arg1 harg1 x0 (k0_off21 i) (k0_off21_inb i)
  | 21 => entry arg1 harg1 x0 (k0_off22 i) (k0_off22_inb i)
  | 22 => entry arg1 harg1 x0 (k0_off23 i) (k0_off23_inb i)
  | 23 => entry arg1 harg1 x0 (k0_off24 i) (k0_off24_inb i)
  | 24 => entry arg1 harg1 x0 (k0_off25 i) (k0_off25_inb i)
  | 25 => entry arg1 harg1 x0 (k0_off26 i) (k0_off26_inb i)
  | 26 => entry arg1 harg1 x0 (k0_off27 i) (k0_off27_inb i)
  | 27 => entry arg1 harg1 x0 (k0_off28 i) (k0_off28_inb i)
  | 28 => entry arg1 harg1 x0 (k0_off29 i) (k0_off29_inb i)
  | 29 => entry arg1 harg1 x0 (k0_off30 i) (k0_off30_inb i)
  | 30 => entry arg1 harg1 x0 (k0_off31 i) (k0_off31_inb i)
  | 31 => entry arg1 harg1 x0 (k0_off32 i) (k0_off32_inb i)
  | _ => Ideal.ofBits .f32 0#32

/-- They are the column of the point's head. -/
theorem table_at (k : ℕ) (hk : k < 32) : table i arg1 harg1 x0 k = x0 (cell i k hk) := by
  have hi : (i 0).val < 8 := (i 0).isLt
  have e : (BitVec.ofNat 32 (i 0).val).toNat = (i 0).val := by
    rw [BitVec.toNat_ofNat, Nat.mod_eq_of_lt (by omega)]
  interval_cases k <;> exact entry_at i arg1 harg1 x0 _ _ _ _ rfl e

/-- What a point leaves in its block. -/
theorem stored_at (j : S1x128x256.Idx) (p : S128x256.Idx) (h0 : (p 0).val = (j 1).val) (h1 : (p 1).val = (j 2).val) :
    out0_A_2 c i arg1 harg1 arg2 harg2 arg3 harg3 x0 x1 j
      = pick (table i arg1 harg1 x0) (Ideal.ofBits .f32 0xF149F2CA#32) (x1 p) 32 := by
  have hz3 : (![0, 0, 0] : Fin S1x128x256.rank → ℕ) = 0 := by
    funext a
    match a with
    | ⟨0, _⟩ => rfl
    | ⟨1, _⟩ => rfl
    | ⟨2, _⟩ => rfl
  have eb : k0_pay2 (F := Ideal) (View.readAt (Elt Ideal) arg2.view
      (Rect.unit ![0, 0] S128x256.size inb_S128x256_S128x256_0_0).toLoadRect (harg2.unread x1)) p = x1 p := by
    unfold k0_pay2
    refine (shapeCast_apply _ _ p p rfl).trans ?_
    rw [View.readAt_eq_ld, Memref.IsWhole.read_unread]
    refine View.ld_unit_apply_of x1 _ _ _ p p fun d => ?_
    match d with
    | ⟨0, _⟩ => exact (Nat.zero_add _).symm
    | ⟨1, _⟩ => exact (Nat.zero_add _).symm
  unfold out0_A_2
  rw [View.read_writes_junk_eq_canon]
  refine (congrFun (View.canon_cons_unit_zero (Val := Elt Ideal) (e := .f32) hz3 inb_S1x128x256_S1x128x256_0_0_0 _ []) j).trans ?_
  rw [← eb]
  unfold k0_pay1
  refine (shapeCast_apply _ _ j p ?_).trans ?_
  · rw [Shape.rowMajor_val_two, Shape.rowMajor_val_three]
    have hj : (j 0).val < 1 := (j 0).isLt
    show (p 0).val * 256 + (p 1).val = ((j 0).val * 128 + (j 1).val) * 256 + (j 2).val
    omega
  rfl

end Cert.Band

end
-- ==== Proof.BiasHost.lean ====
/-
The buckets that the caller hands to the call: the reference's bucket within the band, and -1 outside.
-/
module

public import Idealize.ShloMosaic.PureOps.Ideal.Laws
public import Idealize.ShloMosaic.Lib.KernelVsHost
public import proofs.«01_k».proof.Proof.Gen.BiasIdeal.Frame
public import proofs.«01_k».proof.Proof.Gen.BiasReferenceIdeal.Read

@[expose] public section

set_option maxRecDepth 16384

noncomputable section

namespace Cert.Band

open Idealize.ShloMosaic Idealize.ShloMosaic.TcCoe Idealize.ShloMosaic.Tactic
open Idealize.SL.Sem
open Cert.BiasIdeal Cert.BiasIdeal.Gen
open Cert.BiasReferenceIdeal.Read (val_main_v13 val_main_v33)

variable (m : (ℓ : Loc nD τ sig) → Buf (Elt Ideal) ℓ) (c : Dev nD)

theorem V_bucket : V m c main_v34 = select (val_main_v13 (F := Ideal)) (val_main_v33 (F := Ideal))
    (broadcastInDim S128x256 ![] bcast_S_S128x256 (constantI S_ 32 4294967295#32) : IVec S128x256 32) := by
  show StableHlo.after _ _ (Proc.devRef .tc main_v34) = _
  simp only [hostOps0, hostOps0_1, hostOps0_2, hostOps0_3, List.flatten_cons, List.flatten_nil, List.append_nil, List.cons_append,
    List.nil_append, StableHlo.TRef.ternary, StableHlo.TRef.unary, StableHlo.TRef.toBuf, StableHlo.TRef.ofBuf, cast_eq]
  after_results
  rfl

/-- The bucket at an index. -/
theorem V_bucket_at (p : S128x256.Idx) :
    V m c main_v34 p = Scalar.select (val_main_v13 (F := Ideal) p) (val_main_v33 (F := Ideal) p) 4294967295#32 := by
  rw [V_bucket]
  rfl

end Cert.Band

end
-- ==== Proof.BiasTable.lean ====
/-
The bucket of a distance, as the caller's integer and float operations compute it: within the band it is the word of a
number below 32.
-/
module

public import Idealize.ShloMosaic.PureOps.Ideal.Laws
public import Idealize.ShloMosaic.Lib.ValueIdx
public import proofs.«01_k».proof.Proof.Gen.BiasReferenceIdeal.Read

@[expose] public section

noncomputable section

namespace Cert.Band

open Idealize.ShloMosaic
open Cert.BiasReferenceIdeal Cert.BiasReferenceIdeal.Gen Cert.BiasReferenceIdeal.Read

/-- The bits of the bucket's scale, about `log 8`. -/
theorem scale_bits : Ideal.ofBits .f32 0x40051592#32 = ((8721810 / 4194304 : ℝ) : EReal) := by
  simp [Ideal.ofBits, Ideal.ieee]
  rw [← EReal.coe_mul]
  norm_num

theorem sixteen_bits : Ideal.ofBits .f32 0x41800000#32 = ((16 : ℝ) : EReal) := by
  simp [Ideal.ofBits, Ideal.ieee]
  rw [← EReal.coe_mul]
  norm_num

/-- The bucket of a distance in floats, before it is cut off at 31: the word of a number up to 128. -/
theorem large_word (n : ℕ) (h : 16 ≤ n) (hn : n < 128) : ∃ f : ℕ, f ≤ 128 ∧
    Ideal.fptosi 32 (Ideal.div (Ideal.log (Ideal.div ((n : ℝ) : EReal) ((16 : ℝ) : EReal))) ((8721810 / 4194304 : ℝ) : EReal) * ((16 : ℝ) : EReal))
      = BitVec.ofNat 32 f := by
  have h1 : (1 : ℝ) ≤ (n : ℝ) / 16 := by
    have : (16 : ℝ) ≤ n := by exact_mod_cast h
    linarith
  have h8 : (n : ℝ) / 16 ≤ 8 := by
    have : (n : ℝ) ≤ 128 := by exact_mod_cast hn.le
    linarith
  have e1 : Ideal.div ((n : ℝ) : EReal) ((16 : ℝ) : EReal) = (((n : ℝ) / 16 : ℝ) : EReal) := by
    unfold Ideal.div
    rw [if_neg (by norm_num), ← EReal.coe_inv, ← EReal.coe_mul, div_eq_mul_inv]
  have l0 : 0 ≤ Real.log ((n : ℝ) / 16) := Real.log_nonneg h1
  have l8 : Real.log ((n : ℝ) / 16) ≤ 8 := (Real.log_le_self (by linarith)).trans h8
  have e2 : Ideal.log (((n : ℝ) / 16 : ℝ) : EReal) = (Real.log ((n : ℝ) / 16) : EReal) := by
    rw [Ideal.log_coe, if_neg (by linarith)]
  have e3 : Ideal.div (Real.log ((n : ℝ) / 16) : EReal) ((8721810 / 4194304 : ℝ) : EReal)
      = ((Real.log ((n : ℝ) / 16) / (8721810 / 4194304) : ℝ) : EReal) := by
    unfold Ideal.div
    rw [if_neg (by rw [EReal.coe_eq_zero]; norm_num), ← EReal.coe_inv, ← EReal.coe_mul, ← div_eq_mul_inv]
  rw [e1, e2, e3, ← EReal.coe_mul]
  set r : ℝ := Real.log ((n : ℝ) / 16) / (8721810 / 4194304) * 16 with hr
  have r0 : 0 ≤ r := by rw [hr]; positivity
  have r1 : r ≤ 128 := by
    rw [hr, div_mul_eq_mul_div, div_le_iff₀ (by norm_num)]
    linarith
  have f0 : 0 ≤ ⌊r⌋ := Int.floor_nonneg.mpr r0
  have f1 : ⌊r⌋ ≤ 128 := by
    have : (⌊r⌋ : ℝ) ≤ 128 := (Int.floor_le r).trans r1
    exact_mod_cast this
  refine ⟨⌊r⌋.toNat, by omega, ?_⟩
  unfold Ideal.fptosi
  rw [Ideal.toIntClamped_coe, if_pos r0]
  have hc : max (-((2 ^ (32 - 1) : ℕ) : ℤ)) (min (((2 ^ (32 - 1) : ℕ) : ℤ) - 1) ⌊r⌋) = ⌊r⌋ := by
    norm_num
    omega
  rw [hc]
  conv_lhs => rw [← Int.toNat_of_nonneg f0]
  exact BitVec.ofInt_natCast 32 _

/-- A word between 0 and 128, signed, is the word of a number below 128. -/
theorem word_of_band (d : BitVec 32) (h : IntOp.andi (IntOp.cmpi .sge d 0#32) (IntOp.cmpi .slt d 128#32) = 1#1) :
    ∃ n : ℕ, n < 128 ∧ d = BitVec.ofNat 32 n := by
  have h' : (0#32).sle d = true ∧ d.slt 128#32 = true := by
    unfold IntOp.andi IntOp.cmpi at h
    revert h
    cases (0#32).sle d <;> cases d.slt 128#32 <;> simp
  obtain ⟨h0, h1⟩ := h'
  refine ⟨d.toNat, ?_, BitVec.eq_of_toNat_eq (by simp)⟩
  simp only [BitVec.sle, BitVec.slt, decide_eq_true_eq, BitVec.toInt_eq_toNat_cond] at h0 h1
  norm_num at h0 h1
  split at h0 <;> omega

/-- A distance below 16 is its own bucket. -/
theorem small_word : ∀ n : Fin 128, n.val < 16 →
    IntOp.cmpi .slt (IntOp.maxsi (BitVec.ofNat 32 n.val) 0#32) 16#32 = 1#1
      ∧ IntOp.maxsi (BitVec.ofNat 32 n.val) 0#32 = BitVec.ofNat 32 n.val := by
  decide +kernel

/-- A distance from 16 on is not. -/
theorem far_word : ∀ n : Fin 128, 16 ≤ n.val →
    IntOp.cmpi .slt (IntOp.maxsi (BitVec.ofNat 32 n.val) 0#32) 16#32 = 0#1
      ∧ (IntOp.maxsi (IntOp.maxsi (BitVec.ofNat 32 n.val) 0#32) 1#32).toInt = n.val := by
  decide +kernel

/-- Sixteen and a bucket's offset, cut off at 31. -/
theorem cut_word : ∀ f : Fin 129, IntOp.minsi (IntOp.addi 16#32 (BitVec.ofNat 32 f.val)) 31#32 = BitVec.ofNat 32 (min (16 + f.val) 31) := by
  decide +kernel

/-- Within the band, the bucket is the word of a number below 32. -/
theorem bucket_word (i : S128x256.Idx) (h : val_main_v13 (F := Ideal) i = 1#1) :
    ∃ k : ℕ, k < 32 ∧ val_main_v33 (F := Ideal) i = BitVec.ofNat 32 k := by
  rw [val_main_v13_apply, val_main_v10_apply, val_main_v12_apply, val_main_v9_apply, val_main_v11_apply, val_main_c_0_apply,
    val_main_c_1_apply] at h
  obtain ⟨n, hn, e⟩ := word_of_band _ h
  rw [val_main_v33_apply, val_main_v30_apply, val_main_v29_apply, val_main_c_7_apply, val_main_v32_apply, val_main_v28_apply,
    val_main_v31_apply, val_main_c_8_apply, val_main_v27_apply, val_main_c_6_apply, val_main_v26_apply, val_main_v25_apply,
    val_main_v24_apply, val_main_cst_5_apply, val_main_v23_apply, val_main_v22_apply, val_main_cst_4_apply, val_main_v21_apply,
    val_main_v20_apply, val_main_v19_apply, val_main_cst_apply, val_main_v18_apply, val_main_v17_apply, val_main_v16_apply,
    val_main_c_3_apply, val_main_v15_apply, val_main_v14_apply, val_main_c_2_apply, e]
  by_cases h16 : n < 16
  · obtain ⟨a, b⟩ := small_word ⟨n, hn⟩ h16
    exact ⟨n, by omega, (congrArg (fun z => Scalar.select z _ _) a).trans b⟩
  · obtain ⟨a, b⟩ := far_word ⟨n, hn⟩ (Nat.le_of_not_lt h16)
    obtain ⟨f, hf, ef⟩ := large_word n (by omega) hn
    refine ⟨min (16 + f) 31, by omega, (congrArg (fun z => Scalar.select z _ _) a).trans ?_⟩
    refine Eq.trans (congrArg (fun z => IntOp.minsi (IntOp.addi 16#32 z) 31#32) (Eq.trans ?_ ef)) (cut_word ⟨f, by omega⟩)
    show Ideal.fptosi 32 (Ideal.div (Ideal.log (Ideal.div (((IntOp.maxsi (IntOp.maxsi (BitVec.ofNat 32 n) 0#32) 1#32).toInt : ℝ) : EReal)
      (Ideal.ofBits .f32 0x41800000#32))) (Ideal.ofBits .f32 0x40051592#32) * Ideal.ofBits .f32 0x41800000#32) = _
    rw [scale_bits, sixteen_bits, b]
    norm_cast

end Cert.Band

end
-- ==== Proof.BiasRef.lean ====
/-
The reference's bias at an index: within the band the table's entry at the bucket and the head, outside the mask value.
-/
module

public import Idealize.ShloMosaic.Lib.ValueIdx
public import proofs.«01_k».proof.Proof.BiasTable

@[expose] public section

noncomputable section

namespace Cert.Band

open Idealize.ShloMosaic Idealize.ShloMosaic.ValueIdx
open Cert.BiasReferenceIdeal Cert.BiasReferenceIdeal.Gen Cert.BiasReferenceIdeal.Read

/-- The dimension numbers of the reference's lookup `rel_bias[bucket]`. -/
abbrev lookup : GatherDims S32x8 S128x256x1 S128x256x8 := gather_S32x8_S128x256x1_S128x256x8_2_0_n_n_0_2_18

/-- A lookup of rows: at `(i, j, h)` the row named by the word at `(i, j)`, cut off at the last one, and column `h`. -/
theorem lookup_apply {α : Type} (x : S32x8.Idx → α) (idx : IVec S128x256x1 32) (y : S128x256x8.Idx) :
    Host.gather lookup x idx y
      = x (ix2 (n0 := 32) (n1 := 8) ⟨min (idx (ix3 (n0 := 128) (n1 := 256) (n2 := 1) ⟨(y 0).val, (y 0).isLt⟩ ⟨(y 1).val, (y 1).isLt⟩ ⟨0, Nat.one_pos⟩)).toInt.toNat 31, by omega⟩
          ⟨(y 2).val, (y 2).isLt⟩) := by
  refine congrArg x (funext fun a => Fin.ext ?_)
  show lookup.start y idx a + lookup.batchCoord y a + lookup.offCoord y a = _
  rw [GatherDims.batchCoord_eq_zero _ _ _ List.not_mem_nil, Nat.add_zero]
  match a with
  | ⟨0, h⟩ =>
    have hm : (⟨0, h⟩ : Fin S32x8.rank) ∈ lookup.startIndexMap := List.mem_singleton.mpr rfl
    rw [GatherDims.offCoord_eq_zero _ _ _ (fun q => ((GatherDims.mem_sKept _ _).mp q).1 (List.mem_singleton.mpr rfl)), Nat.add_zero]
    unfold GatherDims.start
    rw [dif_pos hm]
    refine congrArg (fun k : S128x256x1.Idx => min (idx k).toInt.toNat 31) (funext fun b => Fin.ext ?_)
    match b with
    | ⟨0, _⟩ => rfl
    | ⟨1, _⟩ => rfl
    | ⟨2, _⟩ => rfl
  | ⟨1, h⟩ =>
    have hm : (⟨1, h⟩ : Fin S32x8.rank) ∉ lookup.startIndexMap :=
      fun q => Nat.one_ne_zero (congrArg Fin.val (List.mem_singleton.mp q))
    unfold GatherDims.start
    rw [dif_neg hm, Nat.zero_add]
    rfl

/-- A bucket's word is not negative, so it is looked up as it is. -/
theorem bucket_row : ∀ k : Fin 32, Scalar.select (IntOp.cmpi .slt (BitVec.ofNat 32 k.val) 0#32)
    (IntOp.addi (BitVec.ofNat 32 k.val) 32#32) (BitVec.ofNat 32 k.val) = BitVec.ofNat 32 k.val
      ∧ min (BitVec.ofNat 32 k.val).toInt.toNat 31 = k.val := by
  decide +kernel

variable (x0 : S32x8.Idx → EReal) (j : S8x128x256.Idx) (p : S128x256.Idx)

theorem ref_outside (h0 : (p 0).val = (j 1).val) (h1 : (p 1).val = (j 2).val) (hb : val_main_v13 (F := Ideal) p = 0#1) :
    val_main_v42 (F := Ideal) x0 j = Ideal.ofBits .f32 0xF149F2CA#32 := by
  have e : idx_main_call1_v1 j = p := funext fun a => Fin.ext (by
    match a with
    | ⟨0, _⟩ => exact h0.symm
    | ⟨1, _⟩ => exact h1.symm)
  rw [val_main_v42_apply, val_main_call1_v1_apply, e, hb, val_main_call1_v2_apply, val_main_call1_v0_apply, val_main_cst_11_apply]
  rfl

theorem ref_inside (h0 : (p 0).val = (j 1).val) (h1 : (p 1).val = (j 2).val) (hb : val_main_v13 (F := Ideal) p = 1#1)
    (k : ℕ) (hk : k < 32) (e : val_main_v33 (F := Ideal) p = BitVec.ofNat 32 k) :
    val_main_v42 (F := Ideal) x0 j = x0 (ix2 (n0 := 32) (n1 := 8) ⟨k, hk⟩ ⟨(j 0).val, (j 0).isLt⟩) := by
  have ej : idx_main_call1_v1 j = p := funext fun a => Fin.ext (by
    match a with
    | ⟨0, _⟩ => exact h0.symm
    | ⟨1, _⟩ => exact h1.symm)
  rw [val_main_v42_apply, val_main_call1_v1_apply, ej, hb, val_main_v41_apply]
  show val_main_v40 (F := Ideal) x0 (idx_main_v41 j) = _
  unfold val_main_v40
  refine (lookup_apply x0 _ _).trans (congrArg x0 (funext fun a => Fin.ext ?_))
  match a with
  | ⟨1, _⟩ => rfl
  | ⟨0, _⟩ =>
    obtain ⟨r0, r1⟩ := bucket_row ⟨k, hk⟩
    have ep : ∀ q : S128x256.Idx, (q 0).val = (j 1).val → (q 1).val = (j 2).val → q = p := fun q q0 q1 => funext fun a => Fin.ext (by
      match a with
      | ⟨0, _⟩ => exact q0.trans h0.symm
      | ⟨1, _⟩ => exact q1.trans h1.symm)
    have e38 : val_main_v38 (F := Ideal) p = BitVec.ofNat 32 k := by
      rw [val_main_v38_apply, val_main_v35_apply, val_main_v34_apply, val_main_c_9_apply, val_main_v37_apply, val_main_v36_apply,
        val_main_c_10_apply, e]
      exact r0
    exact (congrArg (fun w : BitVec 32 => min w.toInt.toNat 31) ((val_main_v39_apply _).trans
      ((congrArg (val_main_v38 (F := Ideal)) (ep _ rfl rfl)).trans e38))).trans r1

end Cert.Band

end
-- ==== Proof.BiasValue.lean ====
/-
The band bias: what the kernel leaves is the reference's array.
-/
module

public import proofs.«01_k».proof.Proof.BiasPick
public import proofs.«01_k».proof.Proof.BiasHost
public import proofs.«01_k».proof.Proof.BiasRef
public import proofs.«01_k».proof.Proof.Gen.BiasIdeal.Value

@[expose] public section

set_option maxRecDepth 16384

noncomputable section

namespace Cert.Band

open Idealize.ShloMosaic Idealize.ShloMosaic.TcCoe Idealize.ShloMosaic.Tactic Idealize.ShloMosaic.ValueIdx
open Idealize.SL.Sem
open Cert.BiasIdeal Cert.BiasIdeal.Gen Cert.BiasIdeal.Value
open Cert.BiasReferenceIdeal.Read (val_main_v13 val_main_v33 val_main_v42)

variable (m : (ℓ : Loc nD τ sig) → Buf (Elt Ideal) ℓ) (c : Dev nD)

/-- The table of the call. -/
abbrev rel : S32x8.Idx → EReal := m ((c : Thread nD τ).loc main_arg0)

/-- The table and the buckets are staged whole; the result's block is the point's head. -/
theorem index_table : ∀ (t : Fin cfg0.N) (a : Fin 2), win0_0.index t a = 0 :=
  (by decide +kernel : ∀ (t : Fin grid0.N) (a : Fin 2), _)

theorem index_bucket : ∀ (t : Fin cfg0.N) (a : Fin 2), win0_1.index t a = 0 :=
  (by decide +kernel : ∀ (t : Fin grid0.N) (a : Fin 2), _)

theorem index_out : ∀ t : Fin cfg0.N, win0_2.index t (0 : Fin 3) = t.val ∧ win0_2.index t (1 : Fin 3) = 0
    ∧ win0_2.index t (2 : Fin 3) = 0 ∧ (grid0.coords t 0).val = t.val ∧ (cfg0.win 2).flush t = true :=
  (by decide +kernel : ∀ t : Fin grid0.N, _)

theorem table_block (t : Fin cfg0.N) (q : S32x8.Idx) : iblk m c 0 t q = rel m c q := by
  refine Eq.trans (b := V m c main_arg0 q) ?_ (congrFun (V_main_arg0 m c) q)
  refine congrArg (V m c main_arg0) (funext fun a => Fin.ext ?_)
  match a with
  | ⟨0, _⟩ => exact win0_0.rect_emb_val_of_index_zero t 0 (index_table t 0) q
  | ⟨1, _⟩ => exact win0_0.rect_emb_val_of_index_zero t 1 (index_table t 1) q

theorem bucket_block (t : Fin cfg0.N) (p : S128x256.Idx) : iblk m c 1 t p = V m c main_v34 p := by
  refine congrArg (V m c main_v34) (funext fun a => Fin.ext ?_)
  match a with
  | ⟨0, _⟩ => exact win0_1.rect_emb_val_of_index_zero t 0 (index_bucket t 0) p
  | ⟨1, _⟩ => exact win0_1.rect_emb_val_of_index_zero t 1 (index_bucket t 1) p

/-- None of the 32 buckets is the word of -1. -/
theorem no_bucket : ∀ k : Fin 32, (4294967295#32 : BitVec 32) ≠ BitVec.ofNat 32 k.val := by
  decide +kernel

/-- What a point leaves at an index of its block is the reference's entry for the point's head. -/
theorem point_at (t : Fin cfg0.N) (j : S1x128x256.Idx) (i : S8x128x256.Idx) (h0 : (i 0).val = t.val) (h1 : (i 1).val = (j 1).val)
    (h2 : (i 2).val = (j 2).val) : outsAt0 m c t j = val_main_v42 (F := Ideal) (rel m c) i := by
  let p : S128x256.Idx := ix2 (n0 := 128) (n1 := 256) ⟨(i 1).val, (i 1).isLt⟩ ⟨(i 2).val, (i 2).isLt⟩
  unfold outsAt0
  rw [stored_at c (grid0.coords t) _ _ _ _ _ _ (iblk m c 0 t) (iblk m c 1 t) j p h1 h2, bucket_block, V_bucket_at]
  rcases BitVec.eq_zero_or_eq_one (val_main_v13 (F := Ideal) p) with hb | hb
  · rw [hb, select_zero, ref_outside (rel m c) i p rfl rfl hb]
    exact pick_miss _ _ _ 32 fun k hk => no_bucket ⟨k, hk⟩
  · obtain ⟨k, hk, e⟩ := bucket_word p hb
    rw [hb, select_one, ref_inside (rel m c) i p rfl rfl hb k hk e, e, pick_hit _ _ k 32 hk (by norm_num), table_at _ _ _ _ k hk,
      table_block]
    refine congrArg (rel m c) (funext fun a => Fin.ext ?_)
    match a with
    | ⟨0, _⟩ => rfl
    | ⟨1, _⟩ => exact (index_out t).2.2.2.1.trans h0.symm

/-- The kernel's result array. -/
theorem kernel_bias : (dats m 0 c).arrAt 2 cfg0.N = val_main_v42 (F := Ideal) (rel m c) := by
  refine (dats m 0 c).arrAt_eq_of_cover 2 _ (fun t hf => ?_) fun i => ?_
  · rw [flushed2]
    funext y
    have hy : (y 0).val < 1 := (y 0).isLt
    obtain ⟨e0, e1, e2, -, -⟩ := index_out t
    refine point_at m c t _ _ ?_ ?_ ?_
    · refine (win0_2.rect_emb_val t y 0).trans ?_
      rw [e0]
      show t.val * 1 + (y 0).val = t.val
      omega
    · exact win0_2.rect_emb_val_of_index_zero t 1 e1 y
    · exact win0_2.rect_emb_val_of_index_zero t 2 e2 y
  · have hi : (i 0).val < 8 := (i 0).isLt
    have ht : (i 0).val < cfg0.N := lt_of_lt_of_eq hi N_0.symm
    obtain ⟨e0, e1, e2, -, hf⟩ := index_out ⟨(i 0).val, ht⟩
    refine ⟨⟨(i 0).val, ht⟩, hf, ?_⟩
    let y : S1x128x256.Idx := ix3 (n0 := 1) (n1 := 128) (n2 := 256) ⟨0, Nat.one_pos⟩ ⟨(i 1).val, (i 1).isLt⟩ ⟨(i 2).val, (i 2).isLt⟩
    have e : ((cfg0.win 2).blk ⟨(i 0).val, ht⟩).view.emb y = i := funext fun a => Fin.ext (by
      match a with
      | ⟨0, _⟩ =>
        refine (win0_2.rect_emb_val ⟨(i 0).val, ht⟩ y 0).trans ?_
        rw [e0]
        show (i 0).val * 1 + 0 = (i 0).val
        omega
      | ⟨1, _⟩ => exact win0_2.rect_emb_val_of_index_zero ⟨(i 0).val, ht⟩ 1 e1 y
      | ⟨2, _⟩ => exact win0_2.rect_emb_val_of_index_zero ⟨(i 0).val, ht⟩ 2 e2 y)
    have hm := ((cfg0.win 2).blk ⟨(i 0).val, ht⟩).view.emb_mem_set y
    rw [e] at hm
    exact hm

end Cert.Band

end
-- ==== Proof.lean ====
module

public import proofs.«01_k».proof.Defs
public import proofs.«01_k».proof.Proof.Gen.Kernel
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Bias
public import proofs.«01_k».proof.Proof.Gen.BiasIdeal.Value
public import proofs.«01_k».proof.Proof.Gen.BiasReferenceIdeal.Run
public import proofs.«01_k».proof.Proof.Gen.BiasReferenceIdeal.Read
public import Idealize.ShloMosaic.Adequacy
public import Idealize.ShloMosaic.Init
public import Idealize.ShloMosaic.Lib.Quiescent
public import proofs.«01_k».proof.Proof.RefValue
public import proofs.«01_k».proof.Proof.Value
public import proofs.«01_k».proof.Proof.BiasValue

@[expose] public section

noncomputable section

namespace Cert.Proof

open Idealize.ShloMosaic Idealize.ShloMosaic.Tactic Idealize.SL.Sem

/-- The kernel and its idealization have the same text, so the one run, at any float values, is both programs' run. -/
theorem quiescent_Kernel : quiescent_Kernel := fun m ρ _ => by
  refine Eq.mp ?_ (Cert.KernelIdeal.Gen.frame (F := Bits) m ρ)
  sl_kernel_rfl

/-- The reference leaves its arguments unchanged, and declares no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are the specification at every index. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5⟩ := hagree c
  rw [(h c).1, Cert.ReferenceIdeal.Read.val_main_v43_eq, a0, a1, a2, a3, a4, a5]
  exact funext fun i => (Cert.Ffn.ref_out (Cert.Ffn.argsOf m c) i).trans (Cert.Ffn.kernel_out m c i).symm

/-- The bias's kernel and its idealization have the same text, so the one run, at any float values, is both programs' run. -/
theorem quiescent_Bias : quiescent_Bias := fun m ρ _ => by
  refine Eq.mp ?_ (Cert.BiasIdeal.Gen.frame (F := Bits) m ρ)
  sl_kernel_rfl

/-- The bias's reference leaves its argument unchanged, and declares no semaphore. -/
theorem quiescent_BiasReferenceIdeal : quiescent_BiasReferenceIdeal := fun m ρ _ =>
  (θ_run Cert.BiasReferenceIdeal.defs _ _).mono (fun r h => ⟨fun c => (h c).2, sem_eq_zero_of_no_sems (by decide) r.2⟩)
    (Cert.BiasReferenceIdeal.Value.run (F := Ideal) m ρ)

/-- The bias's kernel leaves the reference's array. -/
theorem algebraic_BiasIdeal_BiasReferenceIdeal : algebraic_BiasIdeal_BiasReferenceIdeal := by
  intro m ρ m' ρ' _ hagree
  refine ⟨_, Cert.BiasIdeal.Value.run_blocks (F := Ideal) m ρ, ?_⟩
  refine (θ_run Cert.BiasReferenceIdeal.defs _ _).mono (fun _ h c => ⟨?_, (h c).2⟩) (Cert.BiasReferenceIdeal.Value.run (F := Ideal) m' ρ')
  rw [(h c).1, Cert.BiasReferenceIdeal.Read.val_main_v42_eq, hagree c]
  exact (Cert.Band.kernel_bias m c).symm

/-- The ten claims. -/
theorem claim : Cert.Claim := ⟨Cert.Kernel.Gen.facts, Cert.KernelIdeal.Gen.facts, Cert.ReferenceIdeal.Gen.facts,
  Cert.Bias.Gen.facts, Cert.BiasIdeal.Gen.facts, Cert.BiasReferenceIdeal.Gen.facts,
  quiescent_Kernel, fun m ρ _ => Cert.KernelIdeal.Gen.frame m ρ, quiescent_ReferenceIdeal,
  quiescent_Bias, fun m ρ _ => Cert.BiasIdeal.Gen.frame m ρ, quiescent_BiasReferenceIdeal,
  (trivial : preserves_Kernel_KernelIdeal), algebraic_KernelIdeal_ReferenceIdeal,
  (trivial : preserves_Bias_BiasIdeal), algebraic_BiasIdeal_BiasReferenceIdeal⟩

end Cert.Proof

end
